-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x768 : Shape := ⟨3, ![4, 2048, 768]⟩
abbrev S768x384 : Shape := ⟨2, ![768, 384]⟩
abbrev S384 : Shape := ⟨1, ![384]⟩
abbrev S384x8 : Shape := ⟨2, ![384, 8]⟩
abbrev S8 : Shape := ⟨1, ![8]⟩
abbrev S8x768x128 : Shape := ⟨3, ![8, 768, 128]⟩
abbrev S8x128 : Shape := ⟨2, ![8, 128]⟩
abbrev S8x128x768 : Shape := ⟨3, ![8, 128, 768]⟩
abbrev S8x768 : Shape := ⟨2, ![8, 768]⟩
abbrev S768 : Shape := ⟨1, ![768]⟩
abbrev S_ : Shape := ⟨0, ![]⟩

class Facts : Prop where
  bcast_S_S768x384 : S_.BroadcastsInDim S768x384 (![] : Fin 0 → Fin S768x384.rank)
  bcast_S_S384 : S_.BroadcastsInDim S384 (![] : Fin 0 → Fin S384.rank)
  bcast_S_S384x8 : S_.BroadcastsInDim S384x8 (![] : Fin 0 → Fin S384x8.rank)
  bcast_S_S8 : S_.BroadcastsInDim S8 (![] : Fin 0 → Fin S8.rank)
  bcast_S_S8x768 : S_.BroadcastsInDim S8x768 (![] : Fin 0 → Fin S8x768.rank)

variable [Facts]

def fn {F : FTy → Type} [FloatOps F] (main_arg0 : FVec F S4x2048x768 .f32) (main_arg1 : FVec F S768x384 .f32) (main_arg2 : FVec F S384 .f32) (main_arg3 : FVec F S384x8 .f32) (main_arg4 : FVec F S8 .f32) (main_arg5 : FVec F S8x768x128 .f32) (main_arg6 : FVec F S8x128 .f32) (main_arg7 : FVec F S8x128x768 .f32) (main_arg8 : FVec F S8x768 .f32) (main_arg9 : FVec F S8x768 .f32) (main_arg10 : FVec F S8x768 .f32) (main_arg11 : FVec F S768 .f32) (main_arg12 : FVec F S768 .f32) : IVec S768x384 1 × IVec S384 1 × IVec S384x8 1 × IVec S8 1 × IVec S8x768 1 :=
  let main_v0 : FVec F S768x384 .f32 := Host.absf main_arg1
  let main_cst : FVec F S_ .f32 := constant S_ .f32 0x7F800000#32
  let main_v1 : FVec F S768x384 .f32 := broadcastInDim S768x384 ![] bcast_S_S768x384 main_cst
  let main_v2 : IVec S768x384 1 := cmpf .olt main_v0 main_v1
  let main_v3 : FVec F S384 .f32 := Host.absf main_arg2
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S384x8 .f32 := Host.absf main_arg3
  let main_cst_1 : FVec F S_ .f32 := constant S_ .f32 0x7F800000#32
  let main_v7 : FVec F S384x8 .f32 := broadcastInDim S384x8 ![] bcast_S_S384x8 main_cst_1
  let main_v8 : IVec S384x8 1 := cmpf .olt main_v6 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_v12 : FVec F S8x768 .f32 := Host.absf main_arg9
  let main_cst_3 : FVec F S_ .f32 := constant S_ .f32 0x7F800000#32
  let main_v13 : FVec F S8x768 .f32 := broadcastInDim S8x768 ![] bcast_S_S8x768 main_cst_3
  let main_v14 : IVec S8x768 1 := cmpf .olt main_v12 main_v13
  (main_v2, main_v5, main_v8, main_v11, main_v14)
-- ==== Kernel.lean ====
abbrev S4x2048x768 : Shape := ⟨3, ![4, 2048, 768]⟩
abbrev S768x384 : Shape := ⟨2, ![768, 384]⟩
abbrev S384 : Shape := ⟨1, ![384]⟩
abbrev S384x8 : Shape := ⟨2, ![384, 8]⟩
abbrev S8 : Shape := ⟨1, ![8]⟩
abbrev S8x768x128 : Shape := ⟨3, ![8, 768, 128]⟩
abbrev S8x128 : Shape := ⟨2, ![8, 128]⟩
abbrev S8x128x768 : Shape := ⟨3, ![8, 128, 768]⟩
abbrev S8x768 : Shape := ⟨2, ![8, 768]⟩
abbrev S768 : Shape := ⟨1, ![768]⟩
abbrev S8192x768 : Shape := ⟨2, ![8192, 768]⟩
abbrev S768x8x128 : Shape := ⟨3, ![768, 8, 128]⟩
abbrev S768x1024 : Shape := ⟨2, ![768, 1024]⟩
abbrev S1x1024 : Shape := ⟨2, ![1, 1024]⟩
abbrev S8x1x768 : Shape := ⟨3, ![8, 1, 768]⟩
abbrev S1024x768 : Shape := ⟨2, ![1024, 768]⟩
abbrev S1x384 : Shape := ⟨2, ![1, 384]⟩
abbrev S1x8 : Shape := ⟨2, ![1, 8]⟩
abbrev S1x768 : Shape := ⟨2, ![1, 768]⟩
abbrev S8x1 : Shape := ⟨2, ![8, 1]⟩
abbrev S1x1 : Shape := ⟨2, ![1, 1]⟩
abbrev S_ : Shape := ⟨0, ![]⟩
abbrev S2048x768 : Shape := ⟨2, ![2048, 768]⟩
abbrev S512x768 : Shape := ⟨2, ![512, 768]⟩
abbrev S512x384 : Shape := ⟨2, ![512, 384]⟩
abbrev S512x1024 : Shape := ⟨2, ![512, 1024]⟩
abbrev S512x8 : Shape := ⟨2, ![512, 8]⟩
abbrev S8x512 : Shape := ⟨2, ![8, 512]⟩
abbrev S512 : Shape := ⟨1, ![512]⟩
abbrev S1x512 : Shape := ⟨2, ![1, 512]⟩
abbrev S512x128 : Shape := ⟨2, ![512, 128]⟩
abbrev S512x1 : Shape := ⟨2, ![512, 1]⟩
abbrev S1 : Shape := ⟨1, ![1]⟩

abbrev nBuf : Space → Nat
  | .hbm => 34
  | .vmem => 16
  | .smem => 0
  | _ => 0

abbrev bufTy : (tb : Table) → Fin (tcTables nBuf tb) → BufTy
  | .hbm, ⟨0, _⟩ => ⟨S4x2048x768, .f32⟩
  | .hbm, ⟨1, _⟩ => ⟨S768x384, .f32⟩
  | .hbm, ⟨2, _⟩ => ⟨S384, .f32⟩
  | .hbm, ⟨3, _⟩ => ⟨S384x8, .f32⟩
  | .hbm, ⟨4, _⟩ => ⟨S8, .f32⟩
  | .hbm, ⟨5, _⟩ => ⟨S8x768x128, .f32⟩
  | .hbm, ⟨6, _⟩ => ⟨S8x128, .f32⟩
  | .hbm, ⟨7, _⟩ => ⟨S8x128x768, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S768, .f32⟩
  | .hbm, ⟨12, _⟩ => ⟨S768, .f32⟩
  | .hbm, ⟨13, _⟩ => ⟨S8192x768, .f32⟩
  | .hbm, ⟨14, _⟩ => ⟨S768x8x128, .f32⟩
  | .hbm, ⟨15, _⟩ => ⟨S768x1024, .f32⟩
  | .hbm, ⟨16, _⟩ => ⟨S768x1024, .bf16⟩
  | .hbm, ⟨17, _⟩ => ⟨S1x1024, .f32⟩
  | .hbm, ⟨18, _⟩ => ⟨S8x1x768, .f32⟩
  | .hbm, ⟨19, _⟩ => ⟨S8x128x768, .f32⟩
  | .hbm, ⟨20, _⟩ => ⟨S8x128x768, .f32⟩
  | .hbm, ⟨21, _⟩ => ⟨S1024x768, .f32⟩
  | .hbm, ⟨22, _⟩ => ⟨S1024x768, .bf16⟩
  | .hbm, ⟨23, _⟩ => ⟨S8x768, .f32⟩
  | .hbm, ⟨24, _⟩ => ⟨S8x768, .f32⟩
  | .hbm, ⟨25, _⟩ => ⟨S1x384, .f32⟩
  | .hbm, ⟨26, _⟩ => ⟨S1x8, .f32⟩
  | .hbm, ⟨27, _⟩ => ⟨S1x768, .f32⟩
  | .hbm, ⟨28, _⟩ => ⟨S1x768, .f32⟩
  | .hbm, ⟨29, _⟩ => ⟨S8192x768, .f32⟩
  | .hbm, ⟨30, _⟩ => ⟨S8x1, .f32⟩
  | .hbm, ⟨31, _⟩ => ⟨S1x1, .f32⟩
  | .hbm, ⟨32, _⟩ => ⟨S4x2048x768, .f32⟩
  | .hbm, ⟨33, _⟩ => ⟨S_, .f32⟩
  | .local _ .vmem, ⟨0, _⟩ => ⟨S2048x768, .f32⟩
  | .local _ .vmem, ⟨1, _⟩ => ⟨S2048x768, .f32⟩
  | .local _ .vmem, ⟨2, _⟩ => ⟨S768x384, .f32⟩
  | .local _ .vmem, ⟨3, _⟩ => ⟨S1x384, .f32⟩
  | .local _ .vmem, ⟨4, _⟩ => ⟨S384x8, .f32⟩
  | .local _ .vmem, ⟨5, _⟩ => ⟨S1x8, .f32⟩
  | .local _ .vmem, ⟨6, _⟩ => ⟨S1x1024, .f32⟩
  | .local _ .vmem, ⟨7, _⟩ => ⟨S768x1024, .bf16⟩
  | .local _ .vmem, ⟨8, _⟩ => ⟨S1024x768, .bf16⟩
  | .local _ .vmem, ⟨9, _⟩ => ⟨S8x768, .f32⟩
  | .local _ .vmem, ⟨10, _⟩ => ⟨S1x768, .f32⟩
  | .local _ .vmem, ⟨11, _⟩ => ⟨S1x768, .f32⟩
  | .local _ .vmem, ⟨12, _⟩ => ⟨S2048x768, .f32⟩
  | .local _ .vmem, ⟨13, _⟩ => ⟨S2048x768, .f32⟩
  | .local _ .vmem, ⟨14, _⟩ => ⟨S8x1, .f32⟩
  | .local _ .vmem, ⟨15, _⟩ => ⟨S1x1, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16_0 : Ref sig .tc := ⟨.hbm, 29, rfl⟩
abbrev main_call0_v16_1 : Ref sig .tc := ⟨.hbm, 30, rfl⟩
abbrev main_call0_v16_2 : Ref sig .tc := ⟨.hbm, 31, rfl⟩
abbrev main_v0_0 : Ref sig .tc := ⟨.hbm, 32, rfl⟩
abbrev main_v0_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg13_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v595 : BitVec 1 := Scalar.cmpi .eq arg0 c0_i32
  let v596 : BitVec 32 := Scalar.extui v595
  let c0_i32_194 : BitVec 32 := 0#32
  let v597 : BitVec 1 := Scalar.cmpi .ne v596 c0_i32_194
  v597

def k0_cond2 (i : grid0.Coords) : BitVec 1 :=
  let arg0 : BitVec 32 := BitVec.ofNat 32 (i 0).val
  let c0_i32_195 : BitVec 32 := 0#32
  let v598 : BitVec 1 := Scalar.cmpi .ne arg0 c0_i32_195
  let v599 : BitVec 32 := Scalar.extui v598
  let c0_i32_196 : BitVec 32 := 0#32
  let v600 : BitVec 1 := Scalar.cmpi .ne v599 c0_i32_196
  v600

def k0_cond3 (i : grid0.Coords) : BitVec 1 :=
  let arg0 : BitVec 32 := BitVec.ofNat 32 (i 0).val
  let c3_i32 : BitVec 32 := 3#32
  let v601 : BitVec 1 := Scalar.cmpi .eq arg0 c3_i32
  let v602 : BitVec 32 := Scalar.extui v601
  let c0_i32_197 : BitVec 32 := 0#32
  let v603 : BitVec 1 := Scalar.cmpi .ne v602 c0_i32_197
  v603

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4x2048x768 : Shape := ⟨3, ![4, 2048, 768]⟩
abbrev S768x384 : Shape := ⟨2, ![768, 384]⟩
abbrev S384 : Shape := ⟨1, ![384]⟩
abbrev S384x8 : Shape := ⟨2, ![384, 8]⟩
abbrev S8 : Shape := ⟨1, ![8]⟩
abbrev S8x768x128 : Shape := ⟨3, ![8, 768, 128]⟩
abbrev S8x128 : Shape := ⟨2, ![8, 128]⟩
abbrev S8x128x768 : Shape := ⟨3, ![8, 128, 768]⟩
abbrev S8x768 : Shape := ⟨2, ![8, 768]⟩
abbrev S768 : Shape := ⟨1, ![768]⟩
abbrev S8192x768 : Shape := ⟨2, ![8192, 768]⟩
abbrev S8192x384 : Shape := ⟨2, ![8192, 384]⟩
abbrev S1x384 : Shape := ⟨2, ![1, 384]⟩
abbrev S_ : Shape := ⟨0, ![]⟩
abbrev S8192x8 : Shape := ⟨2, ![8192, 8]⟩
abbrev S1x8 : Shape := ⟨2, ![1, 8]⟩
abbrev S8192x2 : Shape := ⟨2, ![8192, 2]⟩
abbrev S8192 : Shape := ⟨1, ![8192]⟩
abbrev S8192x1 : Shape := ⟨2, ![8192, 1]⟩
abbrev S8x128x8192 : Shape := ⟨3, ![8, 128, 8192]⟩
abbrev S8x8192x128 : Shape := ⟨3, ![8, 8192, 128]⟩
abbrev S8x1x128 : Shape := ⟨3, ![8, 1, 128]⟩
abbrev S8x8192x768 : Shape := ⟨3, ![8, 8192, 768]⟩
abbrev S8x1x768 : Shape := ⟨3, ![8, 1, 768]⟩
abbrev S8192x8x768 : Shape := ⟨3, ![8192, 8, 768]⟩
abbrev S8192x2x1 : Shape := ⟨3, ![8192, 2, 1]⟩
abbrev S8192x2x2 : Shape := ⟨3, ![8192, 2, 2]⟩
abbrev S8192x2x768 : Shape := ⟨3, ![8192, 2, 768]⟩
abbrev S4x2048 : Shape := ⟨2, ![4, 2048]⟩
abbrev S4x2048x1 : Shape := ⟨3, ![4, 2048, 1]⟩
abbrev S1x1x768 : Shape := ⟨3, ![1, 1, 768]⟩

abbrev nBuf : Space → Nat
  | .hbm => 171
  | .vmem => 0
  | .smem => 0
  | _ => 0

abbrev hbmTy0_0 (i : Nat) : BufTy := match i % 128 with
  | 0 => ⟨S4x2048x768, .f32⟩
  | 1 => ⟨S768x384, .f32⟩
  | 2 => ⟨S384, .f32⟩
  | 3 => ⟨S384x8, .f32⟩
  | 4 => ⟨S8, .f32⟩
  | 5 => ⟨S8x768x128, .f32⟩
  | 6 => ⟨S8x128, .f32⟩
  | 7 => ⟨S8x128x768, .f32⟩
  | 8 => ⟨S8x768, .f32⟩
  | 9 => ⟨S8x768, .f32⟩
  | 10 => ⟨S8x768, .f32⟩
  | 11 => ⟨S768, .f32⟩
  | 12 => ⟨S768, .f32⟩
  | 13 => ⟨S8192x768, .f32⟩
  | 14 => ⟨S8192x384, .f32⟩
  | 15 => ⟨S1x384, .f32⟩
  | 16 => ⟨S8192x384, .f32⟩
  | 17 => ⟨S8192x384, .f32⟩
  | 18 => ⟨S_, .f32⟩
  | 19 => ⟨S8192x384, .f32⟩
  | 20 => ⟨S8192x384, .f32⟩
  | 21 => ⟨S8192x8, .f32⟩
  | 22 => ⟨S1x8, .f32⟩
  | 23 => ⟨S8192x8, .f32⟩
  | 24 => ⟨S8192x8, .f32⟩
  | 25 => ⟨S8192x2, .f32⟩
  | 26 => ⟨S8192x2, .i32⟩
  | 27 => ⟨S_, .f32⟩
  | 28 => ⟨S8192, .f32⟩
  | 29 => ⟨S_, .f32⟩
  | 30 => ⟨S8192, .f32⟩
  | 31 => ⟨S8192, .f32⟩
  | 32 => ⟨S8192x1, .f32⟩
  | 33 => ⟨S8192x2, .f32⟩
  | 34 => ⟨S8192x2, .f32⟩
  | 35 => ⟨S8192x2, .f32⟩
  | 36 => ⟨S_, .f32⟩
  | 37 => ⟨S8192, .f32⟩
  | 38 => ⟨S8192x1, .f32⟩
  | 39 => ⟨S8192x2, .f32⟩
  | 40 => ⟨S8192x2, .f32⟩
  | 41 => ⟨S_, .f32⟩
  | 42 => ⟨S8192, .f32⟩
  | 43 => ⟨S_, .f32⟩
  | 44 => ⟨S8192, .f32⟩
  | 45 => ⟨S8192, .f32⟩
  | 46 => ⟨S8192x1, .f32⟩
  | 47 => ⟨S8192x8, .f32⟩
  | 48 => ⟨S8192x8, .f32⟩
  | 49 => ⟨S8192x8, .f32⟩
  | 50 => ⟨S_, .f32⟩
  | 51 => ⟨S8192, .f32⟩
  | 52 => ⟨S8192x1, .f32⟩
  | 53 => ⟨S8192x8, .f32⟩
  | 54 => ⟨S8192x8, .f32⟩
  | 55 => ⟨S_, .f32⟩
  | 56 => ⟨S8, .f32⟩
  | 57 => ⟨S_, .f32⟩
  | 58 => ⟨S8, .f32⟩
  | 59 => ⟨S8, .f32⟩
  | 60 => ⟨S_, .f32⟩
  | 61 => ⟨S_, .f32⟩
  | 62 => ⟨S_, .f32⟩
  | 63 => ⟨S8, .f32⟩
  | 64 => ⟨S8, .f32⟩
  | 65 => ⟨S8, .f32⟩
  | 66 => ⟨S_, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S_, .f32⟩
  | 74 => ⟨S8x128x8192, .f32⟩
  | 75 => ⟨S8x8192x128, .f32⟩
  | 76 => ⟨S8x1x128, .f32⟩
  | 77 => ⟨S8x8192x128, .f32⟩
  | 78 => ⟨S8x8192x128, .f32⟩
  | 79 => ⟨S_, .f32⟩
  | 80 => ⟨S8x8192x128, .f32⟩
  | 81 => ⟨S8x8192x128, .f32⟩
  | 82 => ⟨S8x8192x128, .f32⟩
  | 83 => ⟨S_, .f32⟩
  | 84 => ⟨S8x8192x128, .f32⟩
  | 85 => ⟨S8x8192x128, .f32⟩
  | 86 => ⟨S8x8192x128, .f32⟩
  | 87 => ⟨S8x8192x128, .f32⟩
  | 88 => ⟨S8x8192x768, .f32⟩
  | 89 => ⟨S8x1x768, .f32⟩
  | 90 => ⟨S8x8192x768, .f32⟩
  | 91 => ⟨S8x8192x768, .f32⟩
  | 92 => ⟨S8x1x768, .f32⟩
  | 93 => ⟨S8x8192x768, .f32⟩
  | 94 => ⟨S8x8192x768, .f32⟩
  | 95 => ⟨S8x1x768, .f32⟩
  | 96 => ⟨S8x8192x768, .f32⟩
  | 97 => ⟨S8x8192x768, .f32⟩
  | 98 => ⟨S8192x8x768, .f32⟩
  | 99 => ⟨S8192, .i32⟩
  | 100 => ⟨S8192x1, .i32⟩
  | 101 => ⟨S_, .i32⟩
  | 102 => ⟨S8192x1, .i32⟩
  | 103 => ⟨S8192x1, .i1⟩
  | 104 => ⟨S_, .i32⟩
  | 105 => ⟨S8192x1, .i32⟩
  | 106 => ⟨S8192x1, .i32⟩
  | 107 => ⟨S8192x1, .i32⟩
  | 108 => ⟨S_, .i32⟩
  | 109 => ⟨S8192x2, .i32⟩
  | 110 => ⟨S8192x2, .i1⟩
  | 111 => ⟨S_, .i32⟩
  | 112 => ⟨S8192x2, .i32⟩
  | 113 => ⟨S8192x2, .i32⟩
  | 114 => ⟨S8192x2, .i32⟩
  | 115 => ⟨S8192x2, .i32⟩
  | 116 => ⟨S8192x2x1, .i32⟩
  | 117 => ⟨S8192x2x1, .i32⟩
  | 118 => ⟨S8192x2x2, .i32⟩
  | 119 => ⟨S8192x2x768, .f32⟩
  | 120 => ⟨S8192x2x1, .f32⟩
  | 121 => ⟨S8192x2x768, .f32⟩
  | 122 => ⟨S8192x2x768, .f32⟩
  | 123 => ⟨S_, .f32⟩
  | 124 => ⟨S8192x768, .f32⟩
  | 125 => ⟨S4x2048x768, .f32⟩
  | 126 => ⟨S4x2048x768, .f32⟩
  | 127 => ⟨S_, .f32⟩
  | _ => ⟨S4x2048x768, .f32⟩

abbrev hbmTy0_1 (i : Nat) : BufTy := match i % 128 with
  | 0 => ⟨S4x2048, .f32⟩
  | 1 => ⟨S4x2048x1, .f32⟩
  | 2 => ⟨S_, .f32⟩
  | 3 => ⟨S4x2048x1, .f32⟩
  | 4 => ⟨S4x2048x1, .f32⟩
  | 5 => ⟨S_, .i32⟩
  | 6 => ⟨S_, .f32⟩
  | 7 => ⟨S4x2048, .f32⟩
  | 8 => ⟨S4x2048x1, .f32⟩
  | 9 => ⟨S_, .f32⟩
  | 10 => ⟨S4x2048x1, .f32⟩
  | 11 => ⟨S4x2048x1, .f32⟩
  | 12 => ⟨S4x2048x768, .f32⟩
  | 13 => ⟨S4x2048x768, .f32⟩
  | 14 => ⟨S4x2048x768, .f32⟩
  | 15 => ⟨S_, .f32⟩
  | 16 => ⟨S_, .f32⟩
  | 17 => ⟨S_, .f32⟩
  | 18 => ⟨S_, .f32⟩
  | 19 => ⟨S4x2048, .f32⟩
  | 20 => ⟨S4x2048x1, .f32⟩
  | 21 => ⟨S4x2048x1, .f32⟩
  | 22 => ⟨S4x2048x1, .f32⟩
  | 23 => ⟨S_, .f32⟩
  | 24 => ⟨S_, .i1⟩
  | 25 => ⟨S_, .f32⟩
  | 26 => ⟨S_, .f32⟩
  | 27 => ⟨S4x2048x1, .f32⟩
  | 28 => ⟨S4x2048x1, .f32⟩
  | 29 => ⟨S4x2048x768, .f32⟩
  | 30 => ⟨S4x2048x768, .f32⟩
  | 31 => ⟨S_, .f32⟩
  | 32 => ⟨S4x2048x1, .f32⟩
  | 33 => ⟨S4x2048x1, .f32⟩
  | 34 => ⟨S4x2048x1, .f32⟩
  | 35 => ⟨S4x2048x768, .f32⟩
  | 36 => ⟨S4x2048x768, .f32⟩
  | 37 => ⟨S1x1x768, .f32⟩
  | 38 => ⟨S4x2048x768, .f32⟩
  | 39 => ⟨S4x2048x768, .f32⟩
  | 40 => ⟨S1x1x768, .f32⟩
  | 41 => ⟨S4x2048x768, .f32⟩
  | 42 => ⟨S4x2048x768, .f32⟩
  | _ => ⟨S4x2048x768, .f32⟩

abbrev hbmTy (i : Nat) : BufTy := match i / 128 with
  | 0 => hbmTy0_0 i
  | 1 => hbmTy0_1 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_values : Ref sig .tc := ⟨.hbm, 25, rfl⟩
abbrev main_indices : Ref sig .tc := ⟨.hbm, 26, rfl⟩
abbrev main_cst : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c : Ref sig .tc := ⟨.hbm, 101, rfl⟩
abbrev main_v70 : Ref sig .tc := ⟨.hbm, 102, rfl⟩
abbrev main_v71 : Ref sig .tc := ⟨.hbm, 103, rfl⟩
abbrev main_c_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_14 : Ref sig .tc := ⟨.hbm, 108, rfl⟩
abbrev main_v75 : Ref sig .tc := ⟨.hbm, 109, rfl⟩
abbrev main_v76 : Ref sig .tc := ⟨.hbm, 110, rfl⟩
abbrev main_c_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_17 : Ref sig .tc := ⟨.hbm, 127, rfl⟩
abbrev main_v91 : Ref sig .tc := ⟨.hbm, 128, rfl⟩
abbrev main_v92 : Ref sig .tc := ⟨.hbm, 129, rfl⟩
abbrev main_cst_18 : Ref sig .tc := ⟨.hbm, 130, rfl⟩
abbrev main_v93 : Ref sig .tc := ⟨.hbm, 131, rfl⟩
abbrev main_v94 : Ref sig .tc := ⟨.hbm, 132, rfl⟩
abbrev main_c_19 : Ref sig .tc := ⟨.hbm, 133, rfl⟩
abbrev main_call1_cst : Ref sig .tc := ⟨.hbm, 134, rfl⟩
abbrev main_call1_v0 : Ref sig .tc := ⟨.hbm, 135, rfl⟩
abbrev main_call1_v1 : Ref sig .tc := ⟨.hbm, 136, rfl⟩
abbrev main_call1_cst_0 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_call1_v5 : Ref sig .tc := ⟨.hbm, 141, rfl⟩
abbrev main_call1_v6 : Ref sig .tc := ⟨.hbm, 142, rfl⟩
abbrev main_call1_v7 : Ref sig .tc := ⟨.hbm, 143, rfl⟩
abbrev main_call1_cst_1 : Ref sig .tc := ⟨.hbm, 144, rfl⟩
abbrev main_call1_v8 : Ref sig .tc := ⟨.hbm, 145, rfl⟩
abbrev main_call1_cst_2 : Ref sig .tc := ⟨.hbm, 146, rfl⟩
abbrev main_call1_v9 : Ref sig .tc := ⟨.hbm, 147, rfl⟩
abbrev main_call1_v10 : Ref sig .tc := ⟨.hbm, 148, rfl⟩
abbrev main_call1_v11 : Ref sig .tc := ⟨.hbm, 149, rfl⟩
abbrev main_call1_v12 : Ref sig .tc := ⟨.hbm, 150, rfl⟩
abbrev main_call1_cst_3 : Ref sig .tc := ⟨.hbm, 151, rfl⟩
abbrev main_call1_v13 : Ref sig .tc := ⟨.hbm, 152, rfl⟩
abbrev main_call1_cst_4 : Ref sig .tc := ⟨.hbm, 153, rfl⟩
abbrev main_call1_call0_v0 : Ref sig .tc := ⟨.hbm, 154, rfl⟩
abbrev main_call1_call0_v1 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_20 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩

abbrev nD : Nat := 1
abbrev τ : Topo := Topo.v7x

variable {F : FTy → Type} [FloatOps F]
-- ==== Proof.RefFrame.lean ====
/- The reference's frame: it runs, leaves its arguments as they were, and counts no semaphore. -/
module

public import proofs.«01_k».proof.Proof.Gen.ReferenceIdeal.Run
public import proofs.«01_k».proof.Defs
public import Idealize.ShloMosaic.Lib.Quiescent

@[expose] public section

noncomputable section

namespace Cert.Moe

open Idealize.ShloMosaic Idealize.SL.Sem

/-- The reference terminates, keeps its argument arrays, and, declaring no semaphore, ends with none counted. -/
theorem reference_frame : Cert.quiescent_ReferenceIdeal (hReferenceIdeal := Cert.ReferenceIdeal.Gen.facts) := fun m ρ _ =>
  (θ_run _ _ _).mono (fun r h => ⟨fun c => (h c).2.2, sem_eq_zero_of_no_sems rfl r.2⟩) (Cert.ReferenceIdeal.Value.run m ρ)

end Cert.Moe
-- ==== Proof.Top.lean ====
/- The two greatest of eight extended reals, in two readings: the positions a stable descending sort
   leaves first, and the positions found by taking a maximum and the lowest position that attains it. -/
module

public import Idealize.ShloMosaic.PureOps.Ideal.Laws
public import Idealize.ShloMosaic.Lib.SortFacts
public import Idealize.ShloMosaic.Lib.IdealHost

@[expose] public section

noncomputable section

namespace Cert.Moe

open Idealize.ShloMosaic

/-- `k` is the lowest position that attains the greatest value of `v`. -/
def IsFirst {n : ℕ} (v : Fin n → EReal) (k : Fin n) : Prop := (∀ j, v j ≤ v k) ∧ ∀ j, j < k → v j ≠ v k

/-- At most one position is the lowest one attaining the greatest value. -/
theorem IsFirst.unique {n : ℕ} {v : Fin n → EReal} {k l : Fin n} (hk : IsFirst v k) (hl : IsFirst v l) : k = l := by
  have e : v k = v l := le_antisymm (hl.1 k) (hk.1 l)
  rcases lt_trichotomy k l with h | h | h
  · exact absurd e (hl.2 k h)
  · exact h
  · exact absurd e.symm (hk.2 l h)

/-- The order a stable descending sort by `v` leaves: the greater value first, of equal values the lower position first. -/
def Ahead {n : ℕ} (v : Fin n → EReal) (a b : Fin n) : Prop := v b < v a ∨ (v a = v b ∧ a < b)

/-- Inserting a position below all those of a list that stands in the order `Ahead` keeps that order. -/
theorem ahead_insert {n : ℕ} (v : Fin n → EReal) (a : Fin n) :
    ∀ l : List (Fin n), (∀ b ∈ l, a < b) → l.Pairwise (Ahead v) →
      (insertBefore (fun k k' => decide (v k' < v k)) a l).Pairwise (Ahead v)
  | [], _, _ => List.pairwise_singleton _ _
  | b :: l, low, ord => by
    have hb := List.pairwise_cons.mp ord
    by_cases h : v a < v b
    · have step : insertBefore (fun k k' => decide (v k' < v k)) a (b :: l)
          = b :: insertBefore (fun k k' => decide (v k' < v k)) a l := by simp [insertBefore, h]
      rw [step]
      refine List.pairwise_cons.mpr ⟨fun c hc => ?_, ahead_insert v a l (fun c hc => low c (by simp [hc])) hb.2⟩
      have hc' : c = a ∨ c ∈ l := by simpa using (perm_insertBefore _ a l).mem_iff.mp hc
      exact hc'.elim (fun e => e ▸ Or.inl h) (hb.1 c)
    · have step : insertBefore (fun k k' => decide (v k' < v k)) a (b :: l) = a :: b :: l := by simp [insertBefore, h]
      rw [step]
      refine List.pairwise_cons.mpr ⟨fun c hc => ?_, ord⟩
      have hcb : v c ≤ v b := by
        rcases List.mem_cons.mp hc with rfl | hc'
        · exact le_rfl
        · exact (hb.1 c hc').elim (fun e => e.le) (fun e => e.1.ge)
      rcases (hcb.trans (not_lt.mp h)).lt_or_eq with e | e
      · exact Or.inl e
      · exact Or.inr ⟨e.symm, low c hc⟩

/-- The stable descending sort of an ascending list of positions stands in the order `Ahead`. -/
theorem ahead_stableSort {n : ℕ} (v : Fin n → EReal) :
    ∀ l : List (Fin n), l.Pairwise (· < ·) → (stableSort (fun k k' => decide (v k' < v k)) l).Pairwise (Ahead v)
  | [], _ => List.Pairwise.nil
  | a :: l, h => by
    have ha := List.pairwise_cons.mp h
    exact ahead_insert v a _ (fun b hb => ha.1 b ((perm_stableSort _ l).mem_iff.mp hb)) (ahead_stableSort v l ha.2)

/-- The position whose value a stable descending sort of `v` puts at rank `i`. -/
def rank {n : ℕ} (v : Fin n → EReal) (i : Fin n) : Fin n := sortedFrom (fun k k' => decide (v k' < v k)) i

/-- A position of lower rank stands ahead of a position of higher rank. -/
theorem rank_ahead {n : ℕ} (v : Fin n → EReal) (i j : Fin n) (h : i < j) : Ahead v (rank v i) (rank v j) := by
  have hp : ∀ a b : Fin (sortPositions n fun k k' => decide (v k' < v k)).length, a < b →
      Ahead v ((sortPositions n fun k k' => decide (v k' < v k)).get a) ((sortPositions n fun k k' => decide (v k' < v k)).get b) :=
    List.pairwise_iff_get.mp (ahead_stableSort v (List.finRange n) (List.pairwise_lt_finRange n))
  exact hp _ _ h

/-- Every position has a rank. -/
theorem exists_rank {n : ℕ} (v : Fin n → EReal) (k : Fin n) : ∃ i, rank v i = k := sortedFrom_surjective _ k

/-- Two ranks are held by two positions. -/
theorem rank_ne {n : ℕ} (v : Fin n → EReal) {i j : Fin n} (h : i ≠ j) : rank v i ≠ rank v j :=
  fun e => h (sortedFrom_injective _ e)

/-- The values `v` with every entry at the lowest greatest position replaced by the least extended real. -/
def mask (v : Fin 8 → EReal) (k : Fin 8) : EReal := open Classical in if IsFirst v k then ⊥ else v k

/-- Rank 0 is held by the lowest position of the greatest value. -/
theorem isFirst_rank_zero (v : Fin 8 → EReal) : IsFirst v (rank v 0) := by
  have key : ∀ k, k ≠ rank v 0 → Ahead v (rank v 0) k := fun k hk => by
    obtain ⟨i, rfl⟩ := exists_rank v k
    exact rank_ahead v 0 i (Fin.pos_iff_ne_zero.mpr fun e => hk (by rw [e]))
  constructor
  · intro j
    by_cases h : j = rank v 0
    · rw [h]
    · exact (key j h).elim (fun e => e.le) (fun e => e.1.ge)
  · intro j hj e
    rcases key j hj.ne with h | h
    · exact absurd e h.ne
    · exact absurd hj h.2.asymm

/-- A position is the lowest of the greatest value exactly when it holds rank 0. -/
theorem isFirst_iff (v : Fin 8 → EReal) (k : Fin 8) : IsFirst v k ↔ k = rank v 0 :=
  ⟨fun h => h.unique (isFirst_rank_zero v), fun h => h ▸ isFirst_rank_zero v⟩

theorem mask_self (v : Fin 8 → EReal) : mask v (rank v 0) = ⊥ := if_pos (isFirst_rank_zero v)

theorem mask_ne (v : Fin 8 → EReal) {k : Fin 8} (h : k ≠ rank v 0) : mask v k = v k :=
  if_neg fun e => h ((isFirst_iff v k).mp e)

/-- Rank 1 is held by the lowest position of the greatest value once the position of rank 0 is masked. -/
theorem isFirst_mask (v : Fin 8 → EReal) (hv : ∀ k, v k ≠ ⊥) : IsFirst (mask v) (rank v 1) := by
  have h10 : rank v 1 ≠ rank v 0 := rank_ne v (by decide)
  have key : ∀ k, k ≠ rank v 0 → k ≠ rank v 1 → Ahead v (rank v 1) k := fun k h0 h1 => by
    obtain ⟨i, rfl⟩ := exists_rank v k
    refine rank_ahead v 1 i ?_
    have n0 : i ≠ 0 := fun e => h0 (by rw [e])
    have n1 : i ≠ 1 := fun e => h1 (by rw [e])
    have z0 : i.val ≠ 0 := fun e => n0 (Fin.ext e)
    have z1 : i.val ≠ 1 := fun e => n1 (Fin.ext e)
    exact Fin.lt_def.mpr (show 1 < i.val by omega)
  constructor
  · intro j
    by_cases h0 : j = rank v 0
    · rw [h0, mask_self]; exact bot_le
    · rw [mask_ne v h0, mask_ne v h10]
      by_cases h1 : j = rank v 1
      · rw [h1]
      · exact (key j h0 h1).elim (fun e => e.le) (fun e => e.1.ge)
  · intro j hj e
    by_cases h0 : j = rank v 0
    · rw [h0, mask_self, mask_ne v h10] at e; exact hv _ e.symm
    · rw [mask_ne v h0, mask_ne v h10] at e
      rcases key j h0 hj.ne with h | h
      · exact absurd e h.ne
      · exact absurd hj h.2.asymm

/-- A position is the lowest of the greatest masked value exactly when it holds rank 1. -/
theorem isFirst_mask_iff (v : Fin 8 → EReal) (hv : ∀ k, v k ≠ ⊥) (k : Fin 8) : IsFirst (mask v) k ↔ k = rank v 1 :=
  ⟨fun h => h.unique (isFirst_mask v hv), fun h => h ▸ isFirst_mask v hv⟩

/-- The greatest value, as a fold of `max` from the least extended real. -/
def top {n : ℕ} (v : Fin n → EReal) : EReal := Finset.univ.fold max ⊥ v

/-- The fold of `max` is the value at a position that bounds all the others. -/
theorem top_eq {n : ℕ} (v : Fin n → EReal) (k : Fin n) (h : ∀ j, v j ≤ v k) : top v = v k := by
  refine le_antisymm ?_ ?_
  · exact (Finset.fold_max_le (v k)).mpr ⟨bot_le, fun j _ => h j⟩
  · exact Finset.le_fold_max (s := Finset.univ) (f := v) (b := ⊥) (v k) |>.mpr (Or.inr ⟨k, Finset.mem_univ _, le_rfl⟩)

/-- The greatest value is the one of rank 0. -/
theorem top_rank (v : Fin 8 → EReal) : top v = v (rank v 0) := top_eq v _ (isFirst_rank_zero v).1

/-- The greatest masked value is the one of rank 1. -/
theorem top_mask (v : Fin 8 → EReal) (hv : ∀ k, v k ≠ ⊥) : top (mask v) = v (rank v 1) := by
  rw [top_eq _ _ (isFirst_mask v hv).1, mask_ne v (rank_ne v (by decide))]

/-- Attaining the greatest value, with no lower position attaining it, is being the lowest greatest position. -/
theorem isFirst_iff_top (v : Fin 8 → EReal) (k : Fin 8) : IsFirst v k ↔ v k = top v ∧ ∀ j, j < k → v j ≠ top v := by
  rw [top_rank]
  constructor
  · intro h
    have e := (isFirst_iff v k).mp h
    exact ⟨by rw [← e], fun j hj => by rw [← e]; exact h.2 j hj⟩
  · rintro ⟨h, h'⟩
    exact ⟨fun j => h ▸ (isFirst_rank_zero v).1 j, fun j hj => h ▸ h' j hj⟩

end Cert.Moe
-- ==== Proof.Spec.lean ====
/- The layer's mathematics, one token at a time, over the extended reals: the gate's logits, the two
   chosen experts' shares, an expert's activation, the layer normalisation. -/
module

public import proofs.«01_k».proof.Proof.Top

@[expose] public section

noncomputable section

namespace Cert.Moe

open Idealize.ShloMosaic

/-- The constant one half. -/
abbrev half : EReal := Ideal.ofBits .f32 0x3F000000#32

/-- The constant that stands for the square root of one half. -/
abbrev root : EReal := Ideal.ofBits .f32 0x3F3504F3#32

/-- The model's width, as a float constant. -/
abbrev width : EReal := Ideal.ofBits .f32 0x44400000#32

/-- The layer normalisation's small constant. -/
abbrev small : EReal := Ideal.ofBits .f32 0x3727C5AC#32

/-- Logit `e` of the gate for a token `u`: a rectified hidden layer, then a linear one. -/
def logit (u : Fin 768 → EReal) (W : Fin 768 → Fin 384 → EReal) (b : Fin 384 → EReal) (V : Fin 384 → Fin 8 → EReal)
    (a : Fin 8 → EReal) (e : Fin 8) : EReal :=
  ∑ h, max (∑ d, u d * W d h + b h) 0 * V h e + a e

/-- Entry `e` of the softmax of `v`, the greatest entry subtracted first. -/
def prob (v : Fin 8 → EReal) (e : Fin 8) : EReal :=
  Ideal.div (Ideal.exp (v e - top v)) (∑ k, Ideal.exp (v k - top v))

/-- The exponential of the second greatest logit less the greatest. -/
def ratio (v : Fin 8 → EReal) : EReal := Ideal.exp (top (mask v) - top v)

/-- Expert `e`'s share of a token with logits `v`: the softmax over the two greatest logits, zero at the others. -/
def share (v : Fin 8 → EReal) (e : Fin 8) : EReal :=
  open Classical in
  if IsFirst v e then Ideal.div 1 (1 + ratio v)
  else if IsFirst (mask v) e then ratio v * Ideal.div 1 (1 + ratio v) else 0

/-- The Gaussian error linear unit, by the error function. -/
def gelu (a : EReal) : EReal := a * half * (1 + Ideal.erf (a * root))

/-- A row less its mean. -/
def centred (y : Fin 768 → EReal) (d : Fin 768) : EReal := y d - Ideal.div (∑ k, y k) width

/-- A row normalised: centred, divided by the root of its variance plus a small constant, scaled and shifted. -/
def normed (y g b : Fin 768 → EReal) (d : Fin 768) : EReal :=
  centred y d * Ideal.rsqrt (Ideal.div (∑ k, centred y k * centred y k) width + small) * g d + b d

/-- A token's row before normalisation, as the kernel adds it up: all experts' activations in one row of 1024, each
    weighted by its expert's share, against the scaled second layers; the shares against the scaled biases; the token. -/
def mixed (u : Fin 768 → EReal) (s : Fin 8 → EReal) (A : Fin 1024 → EReal) (W : Fin 1024 → Fin 768 → EReal)
    (b : Fin 8 → Fin 768 → EReal) (d : Fin 768) : EReal :=
  ∑ c, A c * s (c.divNat (n := 128) (m := 8)) * W c d + ∑ e, s e * b e d + u d

end Cert.Moe
-- ==== Proof.Block.lean ====
/- What one block of 512 tokens computes, entry by entry: its logits, its experts' shares, its sum of
   gate probabilities, its normalised rows. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Moe

open Idealize.ShloMosaic Cert.KernelIdeal Cert.KernelIdeal.Gen Cert.Moe

section terms

variable {F : FTy → Type} [FloatOps F]
variable (X : Vec F S512x768 .f32) (x1 : Vec F S768x384 .f32) (x2 : Vec F S1x384 .f32) (x3 : Vec F S384x8 .f32)
  (x4 : Vec F S1x8 .f32) (x5 : Vec F S1x1024 .f32) (x6 : Vec F S768x1024 .bf16) (x7 : Vec F S1024x768 .bf16)
  (x8 : Vec F S8x768 .f32) (x9 x10 : Vec F S1x768 .f32)

/-- The expert's number at every entry of the transposed logits. -/
abbrev numbers : IVec S8x512 32 := iota Kind.tc S8x512 32 [0] iota_S8x512_d0_w32

/-- A block's shares: 512 tokens by 8 experts. -/
def shares : FVec F S512x8 .f32 :=
  k0_pay11 (k0_pay7 X x1 x2 x3 x4) numbers (k0_pay8 X x1 x2 x3 x4) (k0_pay9 X x1 x2 x3 x4) k0_pay10

/-- A block's gate probabilities, summed over its tokens. -/
def probSum : FVec F S8x1 .f32 := k0_pay12 (k0_pay7 X x1 x2 x3 x4) (k0_pay8 X x1 x2 x3 x4)

/-- A block's activations: 512 tokens by the 1024 hidden units of all experts. -/
def acts : FVec F S512x1024 .bf16 := k0_pay13 (k0_pay6 X x6 x5)

/-- The first expert's 128 activations, each times the first expert's share. -/
def firstPart : FVec F S512x128 .bf16 :=
  k0_pay15 (k0_pay6 X x6 x5) (k0_pay7 X x1 x2 x3 x4) numbers (k0_pay8 X x1 x2 x3 x4) (k0_pay9 X x1 x2 x3 x4) k0_pay10

/-- The shares at the matmul's element type. -/
def sharesB : FVec F S512x8 .bf16 :=
  k0_pay14 (k0_pay7 X x1 x2 x3 x4) numbers (k0_pay8 X x1 x2 x3 x4) (k0_pay9 X x1 x2 x3 x4) k0_pay10

/-- A block's rows, centred. -/
def rowsC : FVec F S512x768 .f32 :=
  k0_pay16 (k0_pay5 X) (shares X x1 x2 x3 x4) (acts X x5 x6) (sharesB X x1 x2 x3 x4) (firstPart X x1 x2 x3 x4 x5 x6) x7 x8

/-- A block's row variances. -/
def rowsV : FVec F S512x1 .f32 :=
  k0_pay17 (k0_pay5 X) (shares X x1 x2 x3 x4) (acts X x5 x6) (sharesB X x1 x2 x3 x4) (firstPart X x1 x2 x3 x4 x5 x6) x7 x8

/-- A block's normalised rows. -/
def rowsN : FVec F S512x768 .f32 :=
  k0_pay19 (rowsC X x1 x2 x3 x4 x5 x6 x7 x8) (rowsV X x1 x2 x3 x4 x5 x6 x7 x8) k0_pay18 x9 x10

end terms

/-! ## Integer selection: the lowest of the marked positions -/

/-- A position equals the least marked position, as 32-bit words, exactly when it is marked and no lower one is. -/
theorem least_marked (P : Fin 8 → Bool) (e : Fin 8) :
    (BitVec.ofNat 32 e.val = Finset.univ.fold IntOp.minsi (2147483647#32) fun k => if P k = true then BitVec.ofNat 32 k.val else 8#32)
      ↔ (P e = true ∧ ∀ k, k < e → P k = false) := by
  revert P e
  decide +kernel

/-- The block's marking of an expert, one exactly when it is the lowest position whose entry attains the bound. -/
theorem marked_iff (v : Fin 8 → EReal) (e : Fin 8) :
    IntOp.cmpi CmpIPredicate.eq (BitVec.ofNat 32 e.val)
        (Finset.univ.fold IntOp.minsi (2147483647#32) fun k => if v k = top v then BitVec.ofNat 32 k.val else 8#32) = 1#1
      ↔ IsFirst v e := by
  classical
  rw [isFirst_iff_top]
  have h := least_marked (fun k => decide (v k = top v)) e
  simp only [decide_eq_true_eq, decide_eq_false_iff_not] at h
  rw [← h]
  have b : ∀ c : Bool, BitVec.ofBool c = 1#1 ↔ c = true := by decide
  simp only [IntOp.cmpi, b, beq_iff_eq]

/-- A select on such a marking is a choice by the proposition. -/
theorem select_marked {α : Type} (v : Fin 8 → EReal) (e : Fin 8) (a b : α) :
    Scalar.select (IntOp.cmpi CmpIPredicate.eq (BitVec.ofNat 32 e.val)
        (Finset.univ.fold IntOp.minsi (2147483647#32) fun k => if v k = top v then BitVec.ofNat 32 k.val else 8#32)) a b
      = open Classical in if IsFirst v e then a else b := by
  classical
  unfold Scalar.select
  exact if_congr (marked_iff v e) rfl rfl

/-- The pattern of minus infinity is the least extended real. -/
theorem ofBits_bot : Ideal.ofBits FTy.f32 4286578688#32 = ⊥ := by
  simp [Ideal.ofBits, Ideal.ieee]

section reads

variable (X : Vec Ideal S512x768 .f32) (x1 : Vec Ideal S768x384 .f32) (x2 : Vec Ideal S1x384 .f32) (x3 : Vec Ideal S384x8 .f32)
  (x4 : Vec Ideal S1x8 .f32) (x5 : Vec Ideal S1x1024 .f32) (x6 : Vec Ideal S768x1024 .bf16) (x7 : Vec Ideal S1024x768 .bf16)
  (x8 : Vec Ideal S8x768 .f32) (x9 x10 : Vec Ideal S1x768 .f32)

/-- Token `t`'s logits, from the block's arrays. -/
def blockLogit (t : Fin 512) : Fin 8 → EReal :=
  logit (fun d => X (ix2 t d)) (fun d h => x1 (ix2 d h)) (fun h => x2 (ix2 0 h)) (fun h e => x3 (ix2 h e)) (fun e => x4 (ix2 0 e))

theorem logits_read (e : Fin 8) (t : Fin 512) : k0_pay7 X x1 x2 x3 x4 (ix2 e t) = blockLogit X x1 x2 x3 x4 t e := by
  pointwise [k0_pay7, k0_pay5]
  rfl

/-- The greatest logit of each token. -/
theorem tops_read (t : Fin 512) : k0_pay8 X x1 x2 x3 x4 (ix2 0 t) = top (blockLogit X x1 x2 x3 x4 t) := by
  have h : (fun e => k0_pay7 X x1 x2 x3 x4 (ix2 e t)) = blockLogit X x1 x2 x3 x4 t := funext fun e => logits_read X x1 x2 x3 x4 e t
  unfold k0_pay8
  generalize k0_pay7 X x1 x2 x3 x4 = L at h ⊢
  pointwise
  rw [h, ofBits_bot]
  rfl

/-- The mark of each token's best expert, used to choose between two values. -/
theorem marks_read {α : Type} (e : Fin 8) (t : Fin 512) (a b : α) :
    Scalar.select (k0_pay9 X x1 x2 x3 x4 (ix2 e t)) a b
      = open Classical in if IsFirst (blockLogit X x1 x2 x3 x4 t) e then a else b := by
  rw [← select_marked]
  refine congrArg (fun z => Scalar.select z a b) ?_
  have h := tops_read X x1 x2 x3 x4 t
  have h' : ∀ e, k0_pay7 X x1 x2 x3 x4 (ix2 e t) = blockLogit X x1 x2 x3 x4 t e := fun e => logits_read X x1 x2 x3 x4 e t
  unfold k0_pay9
  generalize k0_pay7 X x1 x2 x3 x4 = L at h' ⊢
  generalize k0_pay8 X x1 x2 x3 x4 = M at h ⊢
  pointwise
  simp only [h, h']

/-- Each token's shares. -/
theorem shares_read (t : Fin 512) (e : Fin 8) : shares X x1 x2 x3 x4 (ix2 t e) = share (blockLogit X x1 x2 x3 x4 t) e := by
  have h := tops_read X x1 x2 x3 x4 t
  have h' : ∀ e, k0_pay7 X x1 x2 x3 x4 (ix2 e t) = blockLogit X x1 x2 x3 x4 t e := fun e => logits_read X x1 x2 x3 x4 e t
  have h2 : ∀ (e : Fin 8) (a b : EReal), Scalar.select (k0_pay9 X x1 x2 x3 x4 (ix2 e t)) a b
      = open Classical in if IsFirst (blockLogit X x1 x2 x3 x4 t) e then a else b := fun e a b => marks_read X x1 x2 x3 x4 e t a b
  unfold shares numbers
  generalize k0_pay7 X x1 x2 x3 x4 = L at h' ⊢
  generalize k0_pay8 X x1 x2 x3 x4 = M at h ⊢
  generalize k0_pay9 X x1 x2 x3 x4 = S at h2 ⊢
  pointwise [k0_pay11, k0_pay10]
  simp only [ofBits_bot, h, h', h2]
  classical
  exact if_congr Iff.rfl rfl (select_marked (mask (blockLogit X x1 x2 x3 x4 t)) e _ _)

/-- The shares at the matmul's element type are the same shares. -/
theorem sharesB_read (t : Fin 512) (e : Fin 8) : sharesB X x1 x2 x3 x4 (ix2 t e) = share (blockLogit X x1 x2 x3 x4 t) e := by
  rw [← shares_read]
  unfold sharesB k0_pay14 shares
  generalize k0_pay11 (F := Ideal) _ _ _ _ _ = S
  pointwise

/-- The block's summed probabilities. -/
theorem probSum_read (e : Fin 8) : probSum X x1 x2 x3 x4 (ix2 e 0) = ∑ t : Fin 512, prob (blockLogit X x1 x2 x3 x4 t) e := by
  have h := tops_read X x1 x2 x3 x4
  have h' : ∀ e t, k0_pay7 X x1 x2 x3 x4 (ix2 e t) = blockLogit X x1 x2 x3 x4 t e := fun e t => logits_read X x1 x2 x3 x4 e t
  unfold probSum
  generalize k0_pay7 X x1 x2 x3 x4 = L at h' ⊢
  generalize k0_pay8 X x1 x2 x3 x4 = M at h ⊢
  pointwise [k0_pay12]
  simp only [h, h']
  rfl

/-- Token `t`'s activation at hidden unit `c` of the 1024. -/
def blockAct (t : Fin 512) (c : Fin 1024) : EReal := gelu (∑ d, X (ix2 t d) * x6 (ix2 d c) + x5 (ix2 0 c))

theorem acts_read (t : Fin 512) (c : Fin 1024) : acts X x5 x6 (ix2 t c) = blockAct X x5 x6 t c := by
  unfold acts
  pointwise [k0_pay13, k0_pay6, k0_pay5]
  rfl

theorem firstPart_read (t : Fin 512) (c : Fin 128) :
    firstPart X x1 x2 x3 x4 x5 x6 (ix2 t c) = acts X x5 x6 (ix2 t ⟨c.val, by omega⟩) * sharesB X x1 x2 x3 x4 (ix2 t 0) := by
  have e : firstPart X x1 x2 x3 x4 x5 x6 = mulf (extractStridedSlice S512x128 ![0, 0] (acts X x5 x6) slices_S512x1024_o0_0_S512x128)
      (broadcastTo S512x128 (extractStridedSlice S512x1 ![0, 0] (sharesB X x1 x2 x3 x4) slices_S512x8_o0_0_S512x1) broadcasts_S512x1_S512x128) := rfl
  rw [e]
  generalize acts X x5 x6 = A
  generalize sharesB X x1 x2 x3 x4 = B
  pointwise

/-- Token `t`'s row before normalisation. -/
def blockMix (t : Fin 512) : Fin 768 → EReal :=
  mixed (fun d => X (ix2 t d)) (share (blockLogit X x1 x2 x3 x4 t)) (blockAct X x5 x6 t) (fun c d => x7 (ix2 c d)) (fun e d => x8 (ix2 e d))

set_option maxHeartbeats 4000000 in
/-- Centring reads the eight joined parts as one row of weighted activations. -/
theorem centre_read (V : FVec Ideal S512x768 .f32) (S : FVec Ideal S512x8 .f32) (A : FVec Ideal S512x1024 .bf16) (B : FVec Ideal S512x8 .bf16)
    (P : FVec Ideal S512x128 .bf16) (t : Fin 512) (hP : ∀ c : Fin 128, P (ix2 t c) = A (ix2 t ⟨c.val, by omega⟩) * B (ix2 t 0)) (d : Fin 768) :
    k0_pay16 V S A B P x7 x8 (ix2 t d)
      = centred (fun d => ∑ c, A (ix2 t c) * B (ix2 t (c.divNat (n := 128) (m := 8))) * x7 (ix2 c d) + ∑ e, S (ix2 t e) * x8 (ix2 e d) + V (ix2 t d)) d := by
  pointwise [k0_pay16]
  simp only [hP]
  unfold centred
  refine congrArg₂ (· - ·) (congrArg₂ (· + ·) (congrArg₂ (· + ·) (Finset.sum_congr rfl fun c _ => congrArg₂ (· * ·) ?_ rfl) rfl) rfl)
    (congrArg₂ Ideal.div (Finset.sum_congr rfl fun y _ => congrArg₂ (· + ·) (congrArg₂ (· + ·)
      (Finset.sum_congr rfl fun c _ => congrArg₂ (· * ·) ?_ rfl) rfl) rfl) rfl)
  all_goals
    have hc := c.isLt
    split_ifs
    all_goals
      refine congrArg₂ (· * ·) (congrArg A (congrArg (ix2 t) (Fin.ext ?_))) (congrArg B (congrArg (ix2 t) (Fin.ext ?_)))
      · first | rfl | (simp only []; omega)
      · show _ = c.val / 128; simp; omega

/-- The block's centred rows. -/
theorem rowsC_read (t : Fin 512) (d : Fin 768) :
    rowsC X x1 x2 x3 x4 x5 x6 x7 x8 (ix2 t d) = centred (blockMix X x1 x2 x3 x4 x5 x6 x7 x8 t) d := by
  unfold rowsC
  rw [centre_read x7 x8 _ _ _ _ _ t (fun c => firstPart_read X x1 x2 x3 x4 x5 x6 t c)]
  simp only [acts_read, sharesB_read, shares_read]
  congr 1
  unfold blockMix mixed
  funext d
  congr 1
  pointwise [k0_pay5]

/-- The block's normalised rows. -/
theorem rowsN_read (t : Fin 512) (d : Fin 768) :
    rowsN X x1 x2 x3 x4 x5 x6 x7 x8 x9 x10 (ix2 t d)
      = normed (blockMix X x1 x2 x3 x4 x5 x6 x7 x8 t) (fun d => x9 (ix2 0 d)) (fun d => x10 (ix2 0 d)) d := by
  have hv : rowsV X x1 x2 x3 x4 x5 x6 x7 x8 (ix2 t 0)
      = Ideal.div (∑ k, centred (blockMix X x1 x2 x3 x4 x5 x6 x7 x8 t) k * centred (blockMix X x1 x2 x3 x4 x5 x6 x7 x8 t) k) width := by
    simp only [← rowsC_read]
    unfold rowsV k0_pay17
    change divf (shapeCast S512x1 (multiReduction .add [1] S512 (mulf (rowsC X x1 x2 x3 x4 x5 x6 x7 x8) (rowsC X x1 x2 x3 x4 x5 x6 x7 x8)) _ _ _ _) _) _ _ = _
    generalize rowsC X x1 x2 x3 x4 x5 x6 x7 x8 = C
    pointwise
  have hc := rowsC_read X x1 x2 x3 x4 x5 x6 x7 x8 t d
  unfold rowsN
  generalize rowsC X x1 x2 x3 x4 x5 x6 x7 x8 = C at hc ⊢
  generalize rowsV X x1 x2 x3 x4 x5 x6 x7 x8 = V at hv ⊢
  pointwise [k0_pay19, k0_pay18]
  rw [hc, hv]
  rfl

end reads

end Cert.KernelIdeal.Moe
-- ==== Proof.Point.lean ====
/- What one grid point leaves: its 2048 normalised rows, the running sum of gate probabilities, and, at the
   last point, the loss. -/
module

public import proofs.«01_k».proof.Proof.Gen.KernelIdeal.Frame
public import proofs.«01_k».proof.Proof.Block
public import Idealize.ShloMosaic.Lib.Pipeline.ValueKit.Tiles

@[expose] public section

set_option maxRecDepth 16384

noncomputable section

namespace Cert.KernelIdeal.Moe

open Idealize.ShloMosaic Idealize.SL.Sem Cert.KernelIdeal Cert.KernelIdeal.Gen

variable {F : FTy → Type} [FloatOps F]

/-- Rows `512 s` to `512 s + 511` of a block of 2048 tokens. -/
def slice (x0 : Vec F S2048x768 .f32) (s : Fin 4) : Vec F S512x768 .f32 := fun j =>
  x0 (ix2 ⟨512 * s.val + (j 0).val, by have h : (j 0).val < 512 := (j 0).isLt; have := s.isLt; omega⟩ (j 1))

/-- A load of 512 rows at the `s`-th offset is that slice. -/
theorem ld_slice (x0 : Vec F S2048x768 .f32) (s : Fin 4) (o : Nat) (ho : o = 512 * s.val)
    (inb : ∀ a, (![o, 0] : Fin 2 → Nat) a + S512x768.size a ≤ S2048x768.size a) :
    View.ld x0 (Rect.unit ![o, 0] S512x768.size inb) = slice x0 s := by
  subst ho
  funext x
  refine View.ld_unit_apply_of x0 _ _ _ x _ fun a => ?_
  fin_cases a
  · rfl
  · show (x 1).val = 0 + (x 1).val
    omega

/-- The 2048 normalised rows of a block. -/
def stored (x0 : Vec F S2048x768 .f32) (x1 : Vec F S768x384 .f32) (x2 : Vec F S1x384 .f32) (x3 : Vec F S384x8 .f32)
    (x4 : Vec F S1x8 .f32) (x5 : Vec F S1x1024 .f32) (x6 : Vec F S768x1024 .bf16) (x7 : Vec F S1024x768 .bf16)
    (x8 : Vec F S8x768 .f32) (x9 x10 : Vec F S1x768 .f32) : Vec F S2048x768 .f32 := fun y =>
  rowsN (slice x0 ⟨(y 0).val / 512, by have h : (y 0).val < 2048 := (y 0).isLt; omega⟩) x1 x2 x3 x4 x5 x6 x7 x8 x9 x10
    (ix2 ⟨(y 0).val % 512, Nat.mod_lt _ (by decide)⟩ (y 1))

/-- The sum of gate probabilities over the block: its four slices' in order. -/
def gained (x0 : Vec F S2048x768 .f32) (x1 : Vec F S768x384 .f32) (x2 : Vec F S1x384 .f32) (x3 : Vec F S384x8 .f32)
    (x4 : Vec F S1x8 .f32) : FVec F S8x1 .f32 :=
  addf (addf (addf (probSum (slice x0 0) x1 x2 x3 x4) (probSum (slice x0 1) x1 x2 x3 x4)) (probSum (slice x0 2) x1 x2 x3 x4))
    (probSum (slice x0 3) x1 x2 x3 x4)

/-- The stored rows at a row of slice `s` are that slice's rows. -/
theorem stored_emb (x0 : Vec F S2048x768 .f32) (x1 : Vec F S768x384 .f32) (x2 : Vec F S1x384 .f32) (x3 : Vec F S384x8 .f32)
    (x4 : Vec F S1x8 .f32) (x5 : Vec F S1x1024 .f32) (x6 : Vec F S768x1024 .bf16) (x7 : Vec F S1024x768 .bf16)
    (x8 : Vec F S8x768 .f32) (x9 x10 : Vec F S1x768 .f32) (s : Fin 4) (o : Nat) (ho : o = 512 * s.val)
    (inb : ∀ a, (![o, 0] : Fin 2 → Nat) a + S512x768.size a ≤ S2048x768.size a) (x : S512x768.Idx) :
    rowsN (slice x0 s) x1 x2 x3 x4 x5 x6 x7 x8 x9 x10 x
      = stored x0 x1 x2 x3 x4 x5 x6 x7 x8 x9 x10 ((Rect.unit (s := S2048x768) ![o, 0] S512x768.size inb).emb x) := by
  subst ho
  have hx : (x 0).val < 512 := (x 0).isLt
  have h0 : (((Rect.unit (s := S2048x768) ![512 * s.val, 0] S512x768.size inb).emb x) 0).val = 512 * s.val + (x 0).val :=
    Rect.idx_unit_val (s := S2048x768) ![512 * s.val, 0] S512x768.size inb x 0
  have h1 : (((Rect.unit (s := S2048x768) ![512 * s.val, 0] S512x768.size inb).emb x) 1).val = (x 1).val :=
    (Rect.idx_unit_val (s := S2048x768) ![512 * s.val, 0] S512x768.size inb x 1).trans (Nat.zero_add _)
  unfold stored
  have e : (⟨(((Rect.unit (s := S2048x768) ![512 * s.val, 0] S512x768.size inb).emb x) 0).val / 512,
      by rw [h0]; have := s.isLt; omega⟩ : Fin 4) = s := by
    apply Fin.ext
    show _ / 512 = _
    rw [h0]
    omega
  rw [e]
  refine congrArg _ (funext fun a => ?_)
  fin_cases a
  · apply Fin.ext
    show (x 0).val = _ % 512
    rw [h0]
    omega
  · apply Fin.ext
    exact h1.symm

theorem hz : (![0, 0] : Fin 2 → Nat) = fun _ => 0 := funext fun a => by fin_cases a <;> rfl

section points

variable (c : Dev nD) (i : grid0.Coords) (arg1 : Memref sig .tc .vmem S2048x768 .f32) (harg1 : arg1.IsWhole)
  (arg2 : Memref sig .tc .vmem S768x384 .f32) (harg2 : arg2.IsWhole) (arg3 : Memref sig .tc .vmem S1x384 .f32) (harg3 : arg3.IsWhole)
  (arg4 : Memref sig .tc .vmem S384x8 .f32) (harg4 : arg4.IsWhole) (arg5 : Memref sig .tc .vmem S1x8 .f32) (harg5 : arg5.IsWhole)
  (arg6 : Memref sig .tc .vmem S1x1024 .f32) (harg6 : arg6.IsWhole) (arg7 : Memref sig .tc .vmem S768x1024 .bf16) (harg7 : arg7.IsWhole)
  (arg8 : Memref sig .tc .vmem S1024x768 .bf16) (harg8 : arg8.IsWhole) (arg9 : Memref sig .tc .vmem S8x768 .f32) (harg9 : arg9.IsWhole)
  (arg10 : Memref sig .tc .vmem S1x768 .f32) (harg10 : arg10.IsWhole) (arg11 : Memref sig .tc .vmem S1x768 .f32) (harg11 : arg11.IsWhole)
  (arg12 : Memref sig .tc .vmem S2048x768 .f32) (harg12 : arg12.IsWhole) (arg13 : Memref sig .tc .vmem S8x1 .f32) (harg13 : arg13.IsWhole)
  (arg14 : Memref sig .tc .vmem S1x1 .f32) (harg14 : arg14.IsWhole)
  (x0 : Vec F S2048x768 .f32) (x1 : Vec F S768x384 .f32) (x2 : Vec F S1x384 .f32) (x3 : Vec F S384x8 .f32) (x4 : Vec F S1x8 .f32)
  (x5 : Vec F S1x1024 .f32) (x6 : Vec F S768x1024 .bf16) (x7 : Vec F S1024x768 .bf16) (x8 : Vec F S8x768 .f32) (x9 x10 : Vec F S1x768 .f32)
  (xo12 : Vec F S8x1 .f32)

/-- The first point's rows. -/
theorem rows_A (hc0 : cond0_0 i) (hc1 : ¬cond0_1 i) (hc2 : ¬cond0_2 i) :
    out0_A_11 c i arg1 harg1 arg2 harg2 arg3 harg3 arg4 harg4 arg5 harg5 arg6 harg6 arg7 harg7 arg8 harg8 arg9 harg9
      arg10 harg10 arg11 harg11 arg12 harg12 arg13 harg13 arg14 harg14 hc0 hc1 hc2 x0 x1 x2 x3 x4 x5 x6 x7 x8 x9 x10
      = stored x0 x1 x2 x3 x4 x5 x6 x7 x8 x9 x10 := by
  unfold out0_A_11
  rw [View.read_writes_eq_canon _ _ _ (cover0_A_11 c i arg1 harg1 arg2 harg2 arg3 harg3 arg4 harg4 arg5 harg5 arg6
    harg6 arg7 harg7 arg8 harg8 arg9 harg9 arg10 harg10 arg11 harg11 arg12 harg12 arg13 harg13 arg14 harg14 hc0 hc1 hc2
    x0 x1 x2 x3 x4 x5 x6 x7 x8 x9 x10)]
  funext y
  refine View.canon_apply_of_pieces (stored x0 x1 x2 x3 x4 x5 x6 x7 x8 x9 x10) _ ?_ y (cover0_A_11 c i arg1 harg1 arg2
    harg2 arg3 harg3 arg4 harg4 arg5 harg5 arg6 harg6 arg7 harg7 arg8 harg8 arg9 harg9 arg10 harg10 arg11 harg11 arg12
    harg12 arg13 harg13 arg14 harg14 hc0 hc1 hc2 x0 x1 x2 x3 x4 x5 x6 x7 x8 x9 x10 y)
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, View.ld_unit_zero (S := S768x384) hz, View.ld_unit_zero (S := S1x384) hz,
    View.ld_unit_zero (S := S384x8) hz, View.ld_unit_zero (S := S1x8) hz, View.ld_unit_zero (S := S1x1024) hz,
    View.ld_unit_zero (S := S768x1024) hz, View.ld_unit_zero (S := S1024x768) hz, View.ld_unit_zero (S := S8x768) hz,
    View.ld_unit_zero (S := S1x768) hz, ld_slice x0 0 0 rfl, ld_slice x0 1 512 rfl, ld_slice x0 2 1024 rfl,
    ld_slice x0 3 1536 rfl]
  intro p hp
  simp only [List.mem_cons, List.not_mem_nil, or_false] at hp
  rcases hp with rfl | rfl | rfl | rfl
  · exact fun x => stored_emb x0 x1 x2 x3 x4 x5 x6 x7 x8 x9 x10 3 1536 rfl inb_S2048x768_S512x768_1536_0 x
  · exact fun x => stored_emb x0 x1 x2 x3 x4 x5 x6 x7 x8 x9 x10 2 1024 rfl inb_S2048x768_S512x768_1024_0 x
  · exact fun x => stored_emb x0 x1 x2 x3 x4 x5 x6 x7 x8 x9 x10 1 512 rfl inb_S2048x768_S512x768_512_0 x
  · exact fun x => stored_emb x0 x1 x2 x3 x4 x5 x6 x7 x8 x9 x10 0 0 rfl inb_S2048x768_S512x768_0_0 x

/-- The first point's running sum. -/
theorem sums_A (hc0 : cond0_0 i) (hc1 : ¬cond0_1 i) (hc2 : ¬cond0_2 i) :
    out0_A_12 c i arg1 harg1 arg2 harg2 arg3 harg3 arg4 harg4 arg5 harg5 arg6 harg6 arg7 harg7 arg8 harg8 arg9 harg9
      arg10 harg10 arg11 harg11 arg12 harg12 arg13 harg13 arg14 harg14 hc0 hc1 hc2 x0 x1 x2 x3 x4 x5 x6 x7 x8 x9 x10
      = gained x0 x1 x2 x3 x4 := by
  unfold out0_A_12
  rw [View.read_writes_eq_canon _ _ _ (cover0_A_12 c i arg1 harg1 arg2 harg2 arg3 harg3 arg4 harg4 arg5 harg5 arg6
    harg6 arg7 harg7 arg8 harg8 arg9 harg9 arg10 harg10 arg11 harg11 arg12 harg12 arg13 harg13 arg14 harg14 hc0 hc1 hc2
    x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread, harg9.read_unread, harg10.read_unread,
    harg11.read_unread, View.ld_unit_zero (S := S768x384) hz, View.ld_unit_zero (S := S1x384) hz,
    View.ld_unit_zero (S := S384x8) hz, View.ld_unit_zero (S := S1x8) hz, View.ld_unit_zero (S := S1x1024) hz,
    View.ld_unit_zero (S := S768x1024) hz, View.ld_unit_zero (S := S1024x768) hz, View.ld_unit_zero (S := S8x768) hz,
    View.ld_unit_zero (S := S1x768) hz, ld_slice x0 0 0 rfl, ld_slice x0 1 512 rfl, ld_slice x0 2 1024 rfl,
    ld_slice x0 3 1536 rfl]
  rfl

/-- The middle point's rows. -/
theorem rows_B (hc0 : ¬cond0_0 i) (hc1 : cond0_1 i) (hc2 : ¬cond0_2 i) :
    out0_B_11 c i arg1 harg1 arg2 harg2 arg3 harg3 arg4 harg4 arg5 harg5 arg6 harg6 arg7 harg7 arg8 harg8 arg9 harg9
      arg10 harg10 arg11 harg11 arg12 harg12 arg13 harg13 arg14 harg14 hc0 hc1 hc2 x0 x1 x2 x3 x4 x5 x6 x7 x8 x9 x10
      xo12
      = stored x0 x1 x2 x3 x4 x5 x6 x7 x8 x9 x10 := by
  unfold out0_B_11
  rw [View.read_writes_eq_canon _ _ _ (cover0_B_11 c i arg1 harg1 arg2 harg2 arg3 harg3 arg4 harg4 arg5 harg5 arg6
    harg6 arg7 harg7 arg8 harg8 arg9 harg9 arg10 harg10 arg11 harg11 arg12 harg12 arg13 harg13 arg14 harg14 hc0 hc1 hc2
    x0 x1 x2 x3 x4 x5 x6 x7 x8 x9 x10 xo12)]
  funext y
  refine View.canon_apply_of_pieces (stored x0 x1 x2 x3 x4 x5 x6 x7 x8 x9 x10) _ ?_ y (cover0_B_11 c i arg1 harg1 arg2
    harg2 arg3 harg3 arg4 harg4 arg5 harg5 arg6 harg6 arg7 harg7 arg8 harg8 arg9 harg9 arg10 harg10 arg11 harg11 arg12
    harg12 arg13 harg13 arg14 harg14 hc0 hc1 hc2 x0 x1 x2 x3 x4 x5 x6 x7 x8 x9 x10 xo12 y)
  unfold kernelRun0_B
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, View.ld_unit_zero (S := S768x384) hz, View.ld_unit_zero (S := S1x384) hz,
    View.ld_unit_zero (S := S384x8) hz, View.ld_unit_zero (S := S1x8) hz, View.ld_unit_zero (S := S1x1024) hz,
    View.ld_unit_zero (S := S768x1024) hz, View.ld_unit_zero (S := S1024x768) hz, View.ld_unit_zero (S := S8x768) hz,
    View.ld_unit_zero (S := S1x768) hz, ld_slice x0 0 0 rfl, ld_slice x0 1 512 rfl, ld_slice x0 2 1024 rfl,
    ld_slice x0 3 1536 rfl]
  intro p hp
  simp only [List.mem_cons, List.not_mem_nil, or_false] at hp
  rcases hp with rfl | rfl | rfl | rfl
  · exact fun x => stored_emb x0 x1 x2 x3 x4 x5 x6 x7 x8 x9 x10 3 1536 rfl inb_S2048x768_S512x768_1536_0 x
  · exact fun x => stored_emb x0 x1 x2 x3 x4 x5 x6 x7 x8 x9 x10 2 1024 rfl inb_S2048x768_S512x768_1024_0 x
  · exact fun x => stored_emb x0 x1 x2 x3 x4 x5 x6 x7 x8 x9 x10 1 512 rfl inb_S2048x768_S512x768_512_0 x
  · exact fun x => stored_emb x0 x1 x2 x3 x4 x5 x6 x7 x8 x9 x10 0 0 rfl inb_S2048x768_S512x768_0_0 x

/-- The middle point's running sum. -/
theorem sums_B (hc0 : ¬cond0_0 i) (hc1 : cond0_1 i) (hc2 : ¬cond0_2 i) :
    out0_B_12 c i arg1 harg1 arg2 harg2 arg3 harg3 arg4 harg4 arg5 harg5 arg6 harg6 arg7 harg7 arg8 harg8 arg9 harg9
      arg10 harg10 arg11 harg11 arg12 harg12 arg13 harg13 arg14 harg14 hc0 hc1 hc2 x0 x1 x2 x3 x4 x5 x6 x7 x8 x9 x10
      xo12
      = addf xo12 (gained x0 x1 x2 x3 x4) := by
  unfold out0_B_12
  rw [View.read_writes_eq_canon _ _ _ (cover0_B_12 c i arg1 harg1 arg2 harg2 arg3 harg3 arg4 harg4 arg5 harg5 arg6
    harg6 arg7 harg7 arg8 harg8 arg9 harg9 arg10 harg10 arg11 harg11 arg12 harg12 arg13 harg13 arg14 harg14 hc0 hc1 hc2
    x0 x1 x2 x3 x4 x5 x6 x7 x8 x9 x10 xo12)]
  unfold kernelRun0_B
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread, harg9.read_unread, harg10.read_unread,
    harg11.read_unread, harg13.read_unread, View.ld_unit_zero (S := S768x384) hz, View.ld_unit_zero (S := S1x384) hz,
    View.ld_unit_zero (S := S384x8) hz, View.ld_unit_zero (S := S1x8) hz, View.ld_unit_zero (S := S1x1024) hz,
    View.ld_unit_zero (S := S768x1024) hz, View.ld_unit_zero (S := S1024x768) hz, View.ld_unit_zero (S := S8x768) hz,
    View.ld_unit_zero (S := S1x768) hz, View.ld_unit_zero (S := S8x1) hz, ld_slice x0 0 0 rfl, ld_slice x0 1 512 rfl,
    ld_slice x0 2 1024 rfl, ld_slice x0 3 1536 rfl]
  exact congrArg (fun z => addf z (gained x0 x1 x2 x3 x4)) (shapeCast_self xo12 _)

/-- The last point's rows. -/
theorem rows_C (hc0 : ¬cond0_0 i) (hc1 : cond0_1 i) (hc2 : cond0_2 i) :
    out0_C_11 c i arg1 harg1 arg2 harg2 arg3 harg3 arg4 harg4 arg5 harg5 arg6 harg6 arg7 harg7 arg8 harg8 arg9 harg9
      arg10 harg10 arg11 harg11 arg12 harg12 arg13 harg13 arg14 harg14 hc0 hc1 hc2 x0 x1 x2 x3 x4 x5 x6 x7 x8 x9 x10
      xo12
      = stored x0 x1 x2 x3 x4 x5 x6 x7 x8 x9 x10 := by
  unfold out0_C_11
  rw [View.read_writes_eq_canon _ _ _ (cover0_C_11 c i arg1 harg1 arg2 harg2 arg3 harg3 arg4 harg4 arg5 harg5 arg6
    harg6 arg7 harg7 arg8 harg8 arg9 harg9 arg10 harg10 arg11 harg11 arg12 harg12 arg13 harg13 arg14 harg14 hc0 hc1 hc2
    x0 x1 x2 x3 x4 x5 x6 x7 x8 x9 x10 xo12)]
  funext y
  refine View.canon_apply_of_pieces (stored x0 x1 x2 x3 x4 x5 x6 x7 x8 x9 x10) _ ?_ y (cover0_C_11 c i arg1 harg1 arg2
    harg2 arg3 harg3 arg4 harg4 arg5 harg5 arg6 harg6 arg7 harg7 arg8 harg8 arg9 harg9 arg10 harg10 arg11 harg11 arg12
    harg12 arg13 harg13 arg14 harg14 hc0 hc1 hc2 x0 x1 x2 x3 x4 x5 x6 x7 x8 x9 x10 xo12 y)
  unfold kernelRun0_C
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, View.ld_unit_zero (S := S768x384) hz, View.ld_unit_zero (S := S1x384) hz,
    View.ld_unit_zero (S := S384x8) hz, View.ld_unit_zero (S := S1x8) hz, View.ld_unit_zero (S := S1x1024) hz,
    View.ld_unit_zero (S := S768x1024) hz, View.ld_unit_zero (S := S1024x768) hz, View.ld_unit_zero (S := S8x768) hz,
    View.ld_unit_zero (S := S1x768) hz, ld_slice x0 0 0 rfl, ld_slice x0 1 512 rfl, ld_slice x0 2 1024 rfl,
    ld_slice x0 3 1536 rfl]
  intro p hp
  simp only [List.mem_cons, List.not_mem_nil, or_false] at hp
  rcases hp with rfl | rfl | rfl | rfl
  · exact fun x => stored_emb x0 x1 x2 x3 x4 x5 x6 x7 x8 x9 x10 3 1536 rfl inb_S2048x768_S512x768_1536_0 x
  · exact fun x => stored_emb x0 x1 x2 x3 x4 x5 x6 x7 x8 x9 x10 2 1024 rfl inb_S2048x768_S512x768_1024_0 x
  · exact fun x => stored_emb x0 x1 x2 x3 x4 x5 x6 x7 x8 x9 x10 1 512 rfl inb_S2048x768_S512x768_512_0 x
  · exact fun x => stored_emb x0 x1 x2 x3 x4 x5 x6 x7 x8 x9 x10 0 0 rfl inb_S2048x768_S512x768_0_0 x

/-- The last point's running sum. -/
theorem sums_C (hc0 : ¬cond0_0 i) (hc1 : cond0_1 i) (hc2 : cond0_2 i) :
    out0_C_12 c i arg1 harg1 arg2 harg2 arg3 harg3 arg4 harg4 arg5 harg5 arg6 harg6 arg7 harg7 arg8 harg8 arg9 harg9
      arg10 harg10 arg11 harg11 arg12 harg12 arg13 harg13 arg14 harg14 hc0 hc1 hc2 x0 x1 x2 x3 x4 x5 x6 x7 x8 x9 x10
      xo12
      = addf xo12 (gained x0 x1 x2 x3 x4) := by
  unfold out0_C_12
  rw [View.read_writes_eq_canon _ _ _ (cover0_C_12 c i arg1 harg1 arg2 harg2 arg3 harg3 arg4 harg4 arg5 harg5 arg6
    harg6 arg7 harg7 arg8 harg8 arg9 harg9 arg10 harg10 arg11 harg11 arg12 harg12 arg13 harg13 arg14 harg14 hc0 hc1 hc2
    x0 x1 x2 x3 x4 x5 x6 x7 x8 x9 x10 xo12)]
  unfold kernelRun0_C
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread, harg9.read_unread, harg10.read_unread,
    harg11.read_unread, harg13.read_unread, View.ld_unit_zero (S := S768x384) hz, View.ld_unit_zero (S := S1x384) hz,
    View.ld_unit_zero (S := S384x8) hz, View.ld_unit_zero (S := S1x8) hz, View.ld_unit_zero (S := S1x1024) hz,
    View.ld_unit_zero (S := S768x1024) hz, View.ld_unit_zero (S := S1024x768) hz, View.ld_unit_zero (S := S8x768) hz,
    View.ld_unit_zero (S := S1x768) hz, View.ld_unit_zero (S := S8x1) hz, ld_slice x0 0 0 rfl, ld_slice x0 1 512 rfl,
    ld_slice x0 2 1024 rfl, ld_slice x0 3 1536 rfl]
  exact congrArg (fun z => addf z (gained x0 x1 x2 x3 x4)) (shapeCast_self xo12 _)

/-- The last point's loss, from the whole sum. -/
theorem loss_C (hc0 : ¬cond0_0 i) (hc1 : cond0_1 i) (hc2 : cond0_2 i) :
    out0_C_13 c i arg1 harg1 arg2 harg2 arg3 harg3 arg4 harg4 arg5 harg5 arg6 harg6 arg7 harg7 arg8 harg8 arg9 harg9
      arg10 harg10 arg11 harg11 arg12 harg12 arg13 harg13 arg14 harg14 hc0 hc1 hc2 x0 x1 x2 x3 x4 x5 x6 x7 x8 x9 x10
      xo12
      = k0_pay4 (addf xo12 (gained x0 x1 x2 x3 x4)) := by
  unfold out0_C_13
  rw [View.read_writes_eq_canon _ _ _ (cover0_C_13 c i arg1 harg1 arg2 harg2 arg3 harg3 arg4 harg4 arg5 harg5 arg6
    harg6 arg7 harg7 arg8 harg8 arg9 harg9 arg10 harg10 arg11 harg11 arg12 harg12 arg13 harg13 arg14 harg14 hc0 hc1 hc2
    x0 x1 x2 x3 x4 x5 x6 x7 x8 x9 x10 xo12)]
  unfold kernelRun0_C
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread, harg9.read_unread, harg10.read_unread,
    harg11.read_unread, harg13.read_unread, View.ld_unit_zero (S := S768x384) hz, View.ld_unit_zero (S := S1x384) hz,
    View.ld_unit_zero (S := S384x8) hz, View.ld_unit_zero (S := S1x8) hz, View.ld_unit_zero (S := S1x1024) hz,
    View.ld_unit_zero (S := S768x1024) hz, View.ld_unit_zero (S := S1024x768) hz, View.ld_unit_zero (S := S8x768) hz,
    View.ld_unit_zero (S := S1x768) hz, View.ld_unit_zero (S := S8x1) hz, ld_slice x0 0 0 rfl, ld_slice x0 1 512 rfl,
    ld_slice x0 2 1024 rfl, ld_slice x0 3 1536 rfl]
  rw [View.readCov_unit_zero _ hz]
  exact congrArg (fun z => k0_pay4 (addf z (gained x0 x1 x2 x3 x4))) (shapeCast_self xo12 _)

end points

end Cert.KernelIdeal.Moe
-- ==== Proof.Arrays.lean ====
/- What the run leaves in its two result arrays, as functions of the contents the region finds: the block read at
   each point, the running sum, the rows, the loss, and the reshapes after the region. -/
module

public import proofs.«01_k».proof.Proof.Point
public import Idealize.ShloMosaic.Lib.Pipeline.ValueKit.Geometry

@[expose] public section

set_option maxRecDepth 16384

noncomputable section

namespace Cert.KernelIdeal.Moe

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-! ## The input blocks -/

/-- Rows `2048 t` to `2048 t + 2047` of the tokens. -/
def tokens (c : Dev nD) (t : Fin cfg0.N) : Vec F S2048x768 .f32 := fun j =>
  (V m c main_call0_v0 : Vec F S8192x768 .f32)
    (ix2 ⟨2048 * t.val + (j 0).val, by
      have h : (j 0).val < 2048 := (j 0).isLt
      have ht : t.val < 4 := Nat.lt_of_lt_of_eq t.isLt N_0
      omega⟩ (j 1))

theorem index0 : ∀ t : Fin cfg0.N, win0_0.index t = ![t.val, 0] := (by decide +kernel : ∀ t : Fin grid0.N, _)

/-- The token block read at point `t`. -/
theorem block0 (c : Dev nD) (t : Fin cfg0.N) : iblk m c 0 t = tokens m c t := by
  funext j
  unfold iblk tokens
  rw [View.read_apply]
  refine congrArg (V m c main_call0_v0 : Vec F S8192x768 .f32) (funext fun a => Fin.ext ?_)
  have e := index0 t
  match a with
  | ⟨0, _⟩ =>
    show win0_0.index t 0 * 2048 + 1 * (j 0).val = 2048 * t.val + (j 0).val
    rw [e]; show t.val * 2048 + 1 * (j 0).val = _; omega
  | ⟨1, _⟩ =>
    show win0_0.index t 1 * 768 + 1 * (j 1).val = (j 1).val
    rw [e]; show 0 * 768 + 1 * (j 1).val = _; omega

theorem index1 : ∀ t : Fin cfg0.N, win0_1.index t = ![0, 0] := (by decide +kernel : ∀ t : Fin grid0.N, _)

/-- Window 1 reads its whole array at every point. -/
theorem block1 (c : Dev nD) (t : Fin cfg0.N) : iblk m c 1 t = (V m c main_arg1 : Vec F S768x384 .f32) := by
  funext j
  unfold iblk
  rw [View.read_apply]
  refine congrArg (V m c main_arg1 : Vec F S768x384 .f32) (funext fun a => Fin.ext ?_)
  have e := index1 t
  match a with
  | ⟨0, _⟩ =>
    show win0_1.index t 0 * 768 + 1 * (j 0).val = (j 0).val
    rw [e]; show 0 * 768 + 1 * (j 0).val = _; omega
  | ⟨1, _⟩ =>
    show win0_1.index t 1 * 384 + 1 * (j 1).val = (j 1).val
    rw [e]; show 0 * 384 + 1 * (j 1).val = _; omega

theorem index2 : ∀ t : Fin cfg0.N, win0_2.index t = ![0, 0] := (by decide +kernel : ∀ t : Fin grid0.N, _)

/-- Window 2 reads its whole array at every point. -/
theorem block2 (c : Dev nD) (t : Fin cfg0.N) : iblk m c 2 t = (V m c main_call0_v12 : Vec F S1x384 .f32) := by
  funext j
  unfold iblk
  rw [View.read_apply]
  refine congrArg (V m c main_call0_v12 : Vec F S1x384 .f32) (funext fun a => Fin.ext ?_)
  have e := index2 t
  match a with
  | ⟨0, _⟩ =>
    show win0_2.index t 0 * 1 + 1 * (j 0).val = (j 0).val
    rw [e]; show 0 * 1 + 1 * (j 0).val = _; omega
  | ⟨1, _⟩ =>
    show win0_2.index t 1 * 384 + 1 * (j 1).val = (j 1).val
    rw [e]; show 0 * 384 + 1 * (j 1).val = _; omega

theorem index3 : ∀ t : Fin cfg0.N, win0_3.index t = ![0, 0] := (by decide +kernel : ∀ t : Fin grid0.N, _)

/-- Window 3 reads its whole array at every point. -/
theorem block3 (c : Dev nD) (t : Fin cfg0.N) : iblk m c 3 t = (V m c main_arg3 : Vec F S384x8 .f32) := by
  funext j
  unfold iblk
  rw [View.read_apply]
  refine congrArg (V m c main_arg3 : Vec F S384x8 .f32) (funext fun a => Fin.ext ?_)
  have e := index3 t
  match a with
  | ⟨0, _⟩ =>
    show win0_3.index t 0 * 384 + 1 * (j 0).val = (j 0).val
    rw [e]; show 0 * 384 + 1 * (j 0).val = _; omega
  | ⟨1, _⟩ =>
    show win0_3.index t 1 * 8 + 1 * (j 1).val = (j 1).val
    rw [e]; show 0 * 8 + 1 * (j 1).val = _; omega

theorem index4 : ∀ t : Fin cfg0.N, win0_4.index t = ![0, 0] := (by decide +kernel : ∀ t : Fin grid0.N, _)

/-- Window 4 reads its whole array at every point. -/
theorem block4 (c : Dev nD) (t : Fin cfg0.N) : iblk m c 4 t = (V m c main_call0_v13 : Vec F S1x8 .f32) := by
  funext j
  unfold iblk
  rw [View.read_apply]
  refine congrArg (V m c main_call0_v13 : Vec F S1x8 .f32) (funext fun a => Fin.ext ?_)
  have e := index4 t
  match a with
  | ⟨0, _⟩ =>
    show win0_4.index t 0 * 1 + 1 * (j 0).val = (j 0).val
    rw [e]; show 0 * 1 + 1 * (j 0).val = _; omega
  | ⟨1, _⟩ =>
    show win0_4.index t 1 * 8 + 1 * (j 1).val = (j 1).val
    rw [e]; show 0 * 8 + 1 * (j 1).val = _; omega

theorem index5 : ∀ t : Fin cfg0.N, win0_5.index t = ![0, 0] := (by decide +kernel : ∀ t : Fin grid0.N, _)

/-- Window 5 reads its whole array at every point. -/
theorem block5 (c : Dev nD) (t : Fin cfg0.N) : iblk m c 5 t = (V m c main_call0_v4 : Vec F S1x1024 .f32) := by
  funext j
  unfold iblk
  rw [View.read_apply]
  refine congrArg (V m c main_call0_v4 : Vec F S1x1024 .f32) (funext fun a => Fin.ext ?_)
  have e := index5 t
  match a with
  | ⟨0, _⟩ =>
    show win0_5.index t 0 * 1 + 1 * (j 0).val = (j 0).val
    rw [e]; show 0 * 1 + 1 * (j 0).val = _; omega
  | ⟨1, _⟩ =>
    show win0_5.index t 1 * 1024 + 1 * (j 1).val = (j 1).val
    rw [e]; show 0 * 1024 + 1 * (j 1).val = _; omega

theorem index6 : ∀ t : Fin cfg0.N, win0_6.index t = ![0, 0] := (by decide +kernel : ∀ t : Fin grid0.N, _)

/-- Window 6 reads its whole array at every point. -/
theorem block6 (c : Dev nD) (t : Fin cfg0.N) : iblk m c 6 t = (V m c main_call0_v3 : Vec F S768x1024 .bf16) := by
  funext j
  unfold iblk
  rw [View.read_apply]
  refine congrArg (V m c main_call0_v3 : Vec F S768x1024 .bf16) (funext fun a => Fin.ext ?_)
  have e := index6 t
  match a with
  | ⟨0, _⟩ =>
    show win0_6.index t 0 * 768 + 1 * (j 0).val = (j 0).val
    rw [e]; show 0 * 768 + 1 * (j 0).val = _; omega
  | ⟨1, _⟩ =>
    show win0_6.index t 1 * 1024 + 1 * (j 1).val = (j 1).val
    rw [e]; show 0 * 1024 + 1 * (j 1).val = _; omega

theorem index7 : ∀ t : Fin cfg0.N, win0_7.index t = ![0, 0] := (by decide +kernel : ∀ t : Fin grid0.N, _)

/-- Window 7 reads its whole array at every point. -/
theorem block7 (c : Dev nD) (t : Fin cfg0.N) : iblk m c 7 t = (V m c main_call0_v9 : Vec F S1024x768 .bf16) := by
  funext j
  unfold iblk
  rw [View.read_apply]
  refine congrArg (V m c main_call0_v9 : Vec F S1024x768 .bf16) (funext fun a => Fin.ext ?_)
  have e := index7 t
  match a with
  | ⟨0, _⟩ =>
    show win0_7.index t 0 * 1024 + 1 * (j 0).val = (j 0).val
    rw [e]; show 0 * 1024 + 1 * (j 0).val = _; omega
  | ⟨1, _⟩ =>
    show win0_7.index t 1 * 768 + 1 * (j 1).val = (j 1).val
    rw [e]; show 0 * 768 + 1 * (j 1).val = _; omega

theorem index8 : ∀ t : Fin cfg0.N, win0_8.index t = ![0, 0] := (by decide +kernel : ∀ t : Fin grid0.N, _)

/-- Window 8 reads its whole array at every point. -/
theorem block8 (c : Dev nD) (t : Fin cfg0.N) : iblk m c 8 t = (V m c main_call0_v11 : Vec F S8x768 .f32) := by
  funext j
  unfold iblk
  rw [View.read_apply]
  refine congrArg (V m c main_call0_v11 : Vec F S8x768 .f32) (funext fun a => Fin.ext ?_)
  have e := index8 t
  match a with
  | ⟨0, _⟩ =>
    show win0_8.index t 0 * 8 + 1 * (j 0).val = (j 0).val
    rw [e]; show 0 * 8 + 1 * (j 0).val = _; omega
  | ⟨1, _⟩ =>
    show win0_8.index t 1 * 768 + 1 * (j 1).val = (j 1).val
    rw [e]; show 0 * 768 + 1 * (j 1).val = _; omega

theorem index9 : ∀ t : Fin cfg0.N, win0_9.index t = ![0, 0] := (by decide +kernel : ∀ t : Fin grid0.N, _)

/-- Window 9 reads its whole array at every point. -/
theorem block9 (c : Dev nD) (t : Fin cfg0.N) : iblk m c 9 t = (V m c main_call0_v14 : Vec F S1x768 .f32) := by
  funext j
  unfold iblk
  rw [View.read_apply]
  refine congrArg (V m c main_call0_v14 : Vec F S1x768 .f32) (funext fun a => Fin.ext ?_)
  have e := index9 t
  match a with
  | ⟨0, _⟩ =>
    show win0_9.index t 0 * 1 + 1 * (j 0).val = (j 0).val
    rw [e]; show 0 * 1 + 1 * (j 0).val = _; omega
  | ⟨1, _⟩ =>
    show win0_9.index t 1 * 768 + 1 * (j 1).val = (j 1).val
    rw [e]; show 0 * 768 + 1 * (j 1).val = _; omega

theorem index10 : ∀ t : Fin cfg0.N, win0_10.index t = ![0, 0] := (by decide +kernel : ∀ t : Fin grid0.N, _)

/-- Window 10 reads its whole array at every point. -/
theorem block10 (c : Dev nD) (t : Fin cfg0.N) : iblk m c 10 t = (V m c main_call0_v15 : Vec F S1x768 .f32) := by
  funext j
  unfold iblk
  rw [View.read_apply]
  refine congrArg (V m c main_call0_v15 : Vec F S1x768 .f32) (funext fun a => Fin.ext ?_)
  have e := index10 t
  match a with
  | ⟨0, _⟩ =>
    show win0_10.index t 0 * 1 + 1 * (j 0).val = (j 0).val
    rw [e]; show 0 * 1 + 1 * (j 0).val = _; omega
  | ⟨1, _⟩ =>
    show win0_10.index t 1 * 768 + 1 * (j 1).val = (j 1).val
    rw [e]; show 0 * 768 + 1 * (j 1).val = _; omega

/-! ## What each point leaves -/

/-- The rows point `t` stores. -/
def rowsAt (c : Dev nD) (t : Fin cfg0.N) : Vec F S2048x768 .f32 :=
  stored (tokens m c t) (V m c main_arg1) (V m c main_call0_v12) (V m c main_arg3) (V m c main_call0_v13) (V m c main_call0_v4)
    (V m c main_call0_v3) (V m c main_call0_v9) (V m c main_call0_v11) (V m c main_call0_v14) (V m c main_call0_v15)

/-- What point `t` adds to the running sum. -/
def gainAt (c : Dev nD) (t : Fin cfg0.N) : FVec F S8x1 .f32 :=
  gained (tokens m c t) (V m c main_arg1) (V m c main_call0_v12) (V m c main_arg3) (V m c main_call0_v13)

/-- The running sum after point `n`. -/
def sumTo (c : Dev nD) : (n : ℕ) → n < cfg0.N → FVec F S8x1 .f32
  | 0, h => gainAt m c ⟨0, h⟩
  | n + 1, h => addf (sumTo c n (Nat.lt_of_succ_lt h)) (gainAt m c ⟨n + 1, h⟩)

/-- After point `t` the rows' buffer holds the point's rows. -/
theorem rows_after (c : Dev nD) (t : Fin cfg0.N) : (outsAt0 m c t.val t.isLt).1 = rowsAt m c t := by
  have hN : t.val < 4 := Nat.lt_of_lt_of_eq t.isLt N_0
  unfold rowsAt
  rw [← block0, ← block1 m c t, ← block2 m c t, ← block3 m c t, ← block4 m c t, ← block5 m c t, ← block6 m c t,
    ← block7 m c t, ← block8 m c t, ← block9 m c t, ← block10 m c t]
  by_cases h0 : t.val % 4 = 0
  · rw [outsAt0_A m c t h0 (by omega) (by omega)]
    dsimp only
    rw [rows_A]
  · by_cases h2 : t.val % 4 = 3
    · rw [outsAt0_C m c t h0 (by omega) h2]
      dsimp only
      rw [rows_C]
    · rw [outsAt0_B m c t h0 (by omega) h2]
      dsimp only
      rw [rows_B]

/-- After point `n` the sum's buffer holds the running sum. -/
theorem sums_after (c : Dev nD) : ∀ (n : ℕ) (h : n < cfg0.N), (outsAt0 m c n h).2.1 = sumTo m c n h
  | 0, h => by
    unfold sumTo gainAt
    rw [← block0, ← block1 m c ⟨0, h⟩, ← block2 m c ⟨0, h⟩, ← block3 m c ⟨0, h⟩, ← block4 m c ⟨0, h⟩,
      outsAt0_A m c ⟨0, h⟩ rfl (by dsimp only; omega) (by dsimp only; omega)]
    dsimp only
    rw [sums_A]
  | n + 1, h => by
    have hN : n + 1 < 4 := Nat.lt_of_lt_of_eq h N_0
    have ih := sums_after c n (Nat.lt_of_succ_lt h)
    unfold sumTo gainAt
    rw [← ih, ← block0, ← block1 m c ⟨n + 1, h⟩, ← block2 m c ⟨n + 1, h⟩, ← block3 m c ⟨n + 1, h⟩, ← block4 m c ⟨n + 1, h⟩]
    by_cases h2 : (⟨n + 1, h⟩ : Fin cfg0.N).val % 4 = 3
    · rw [outsAt0_C m c ⟨n + 1, h⟩ (by dsimp only; omega) (by dsimp only; omega) h2]
      dsimp only
      rw [sums_C]
      rfl
    · rw [outsAt0_B m c ⟨n + 1, h⟩ (by dsimp only; omega) (by dsimp only; omega) h2]
      dsimp only
      rw [sums_B]
      rfl

/-- The sum over the whole grid. -/
def total (c : Dev nD) : FVec F S8x1 .f32 := sumTo m c 3 (Nat.lt_of_lt_of_eq (by decide) N_0.symm)

/-- After the last point the loss's buffer holds the loss of the whole sum. -/
theorem loss_after (c : Dev nD) (t : Fin cfg0.N) (ht : t.val % 4 = 3) : (outsAt0 m c t.val t.isLt).2.2 = k0_pay4 (total m c) := by
  have hN : t.val < 4 := Nat.lt_of_lt_of_eq t.isLt N_0
  obtain ⟨n, hn⟩ := t
  obtain rfl : n = 3 := by dsimp only at ht hN; omega
  have ih := sums_after m c 2 (Nat.lt_of_succ_lt hn)
  unfold total sumTo gainAt
  rw [← ih, ← block0, ← block1 m c ⟨3, hn⟩, ← block2 m c ⟨3, hn⟩, ← block3 m c ⟨3, hn⟩, ← block4 m c ⟨3, hn⟩,
    outsAt0_C m c ⟨3, hn⟩ (by dsimp only; omega) (by dsimp only; omega) rfl]
  dsimp only
  rw [loss_C]

/-! ## The arrays after the region -/

/-- All 8192 rows: row `i` is row `i % 2048` of point `i / 2048`. -/
def allRows (c : Dev nD) : Vec F S8192x768 .f32 := fun i =>
  rowsAt m c ⟨(i 0).val / 2048, by
      have h : (i 0).val < 8192 := (i 0).isLt
      rw [show cfg0.N = 4 from N_0]; omega⟩
    (ix2 ⟨(i 0).val % 2048, Nat.mod_lt _ (by decide)⟩ (i 1))

theorem index11 : ∀ t : Fin cfg0.N, win0_11.index t = ![t.val, 0] := (by decide +kernel : ∀ t : Fin grid0.N, _)

theorem index13 : ∀ t : Fin cfg0.N, win0_13.index t = ![0, 0] := (by decide +kernel : ∀ t : Fin grid0.N, _)

/-- The rows' array after the region. -/
theorem array11 (c : Dev nD) : (dats m 0 c).arrAt 11 cfg0.N = allRows m c := by
  refine (dats m 0 c).arrAt_eq_of_covers 11 _ (by decide +kernel) fun t hf y => ?_
  blk_simp
  rw [after0_11, rows_after]
  have hy0 : (y 0).val < 2048 := (y 0).isLt
  have e0 : (((win0_11.blk t).view.emb y) 0).val = 2048 * t.val + (y 0).val := by
    blk_simp [index11]
    show t.val * 2048 + (y 0).val = _
    omega
  have e1 : (((win0_11.blk t).view.emb y) 1).val = (y 1).val := by
    blk_simp [index11]
  unfold allRows
  have ht : (⟨(((win0_11.blk t).view.emb y) 0).val / 2048, by
      have hN : t.val < 4 := Nat.lt_of_lt_of_eq t.isLt N_0
      rw [e0, show cfg0.N = 4 from N_0]; omega⟩ : Fin cfg0.N) = t := by
    apply Fin.ext
    show _ / 2048 = _
    rw [e0]; omega
  refine Eq.trans ?_ (congrArg (fun s => rowsAt m c s _) ht.symm)
  refine congrArg (rowsAt m c t) (funext fun a => Fin.ext ?_)
  match a with
  | ⟨0, _⟩ => show (y 0).val = _ % 2048; rw [e0]; omega
  | ⟨1, _⟩ => exact e1.symm

/-- The loss's array after the region. -/
theorem array13 (c : Dev nD) : (dats m 0 c).arrAt 13 cfg0.N = (k0_pay4 (total m c) : Vec F S1x1 .f32) := by
  refine (dats m 0 c).arrAt_eq_of_covers 13 _ (by decide +kernel) fun t hf y => ?_
  blk_simp
  rw [after0_13, loss_after m c t ((flush0_13 t).mp hf)]
  refine congrArg (k0_pay4 (total m c) : Vec F S1x1 .f32) (funext fun a => Fin.ext ?_)
  match a with
  | ⟨0, _⟩ =>
    show (y 0).val = (((win0_13.blk t).view.emb y) 0).val
    blk_simp [index13]
  | ⟨1, _⟩ =>
    show (y 1).val = (((win0_13.blk t).view.emb y) 1).val
    blk_simp [index13]

/-! ## The program's results -/

/-- What the lines after the region find in the rows' array. -/
theorem found11 (c : Dev nD) : Pipeline.withArrays (cfgs 0).spec c (V0 m c) (fun w => (dats m 0 c).arrAt w (cfgs 0).N)
    (Proc.devRef .tc main_call0_v16_0) = allRows m c :=
  (Pipeline.withArrays_arr spec0 launch0.win.arr_inj c (V0 m c) (fun w => (dats m 0 c).arrAt w (cfgs 0).N) 11).trans
    (array11 m c)

/-- What they find in the loss's array. -/
theorem found13 (c : Dev nD) : Pipeline.withArrays (cfgs 0).spec c (V0 m c) (fun w => (dats m 0 c).arrAt w (cfgs 0).N)
    (Proc.devRef .tc main_call0_v16_2) = (k0_pay4 (total m c) : Vec F S1x1 .f32) :=
  (Pipeline.withArrays_arr spec0 launch0.win.arr_inj c (V0 m c) (fun w => (dats m 0 c).arrAt w (cfgs 0).N) 13).trans
    (array13 m c)

/-- The first result: the rows, by batch. -/
def out0 (c : Dev nD) : Vec F S4x2048x768 .f32 := shapeCast S4x2048x768 (allRows m c) shapeCasts_S8192x768_S4x2048x768

/-- The second result: the loss. -/
def out1 (c : Dev nD) : Vec F S_ .f32 := shapeCast S_ (k0_pay4 (total m c) : Vec F S1x1 .f32) shapeCasts_S1x1_S_

theorem result0 (c : Dev nD) : Pipeline.afterTail₀ cfgs (dats m) 0 (V0 m) [hostOps1] c main_v0_0 = out0 m c := by
  unfold Pipeline.afterTail₀ out0
  simp only [List.flatten_cons, List.flatten_nil, List.append_nil]
  after_results
  exact congrArg (fun z : Vec F S8192x768 .f32 => shapeCast S4x2048x768 z shapeCasts_S8192x768_S4x2048x768) (found11 m c)

theorem result1 (c : Dev nD) : Pipeline.afterTail₀ cfgs (dats m) 0 (V0 m) [hostOps1] c main_v0_1 = out1 m c := by
  unfold Pipeline.afterTail₀ out1
  simp only [List.flatten_cons, List.flatten_nil, List.append_nil]
  after_results
  exact congrArg (fun z : Vec F S1x1 .f32 => shapeCast S_ z shapeCasts_S1x1_S_) (found13 m c)

/-- The run: both results as computed, the arguments unchanged. -/
theorem run : θ_run defs (onTc (τ := τ) (main (F := F))) ⟨m, fun _ => 0, ρ⟩ (fun r =>
    (∀ c : Dev nD, r.2.mem ((c.tc : Thread nD τ).loc main_v0_0) = out0 m c
      ∧ r.2.mem ((c.tc : Thread nD τ).loc main_v0_1) = out1 m c)
    ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))) :=
  θ_run_and ((θ_run defs _ _).mono (fun _ h c =>
      ⟨((h c).2 main_v0_0 (Pipeline.mem_restRefs_of main_v0_0 (by decide) (by decide))).trans (result0 m c),
       ((h c).2 main_v0_1 (Pipeline.mem_restRefs_of main_v0_1 (by decide) (by decide))).trans (result1 m c)⟩) (run_main m ρ))
    (unchanged m ρ)

/-! ## The arrays the lines before the region compute -/

/-- The tokens as one matrix. -/
theorem tokens_entry (c : Dev nD) : (V m c main_call0_v0 : Vec F S8192x768 .f32)
    = shapeCast S8192x768 (m ((c.tc : Thread nD τ).loc main_arg0) : Vec F S4x2048x768 .f32) shapeCasts_S4x2048x768_S8192x768 := by
  show StableHlo.after hostOps0 _ _ = _
  after_results
  rfl

/-- The experts' first weights side by side. -/
theorem first_entry (c : Dev nD) : (V m c main_call0_v3 : Vec F S768x1024 .bf16)
    = truncf .bf16 (shapeCast S768x1024 (transpose S768x8x128 [1, 0, 2]
        (m ((c.tc : Thread nD τ).loc main_arg5) : Vec F S8x768x128 .f32) transposes_S8x768x128_S768x8x128_1_0_2)
        shapeCasts_S768x8x128_S768x1024) bitsLt_bf16_f32 := by
  show StableHlo.after hostOps0 _ _ = _
  after_results
  rfl

/-- The experts' first biases in a row. -/
theorem bias_entry (c : Dev nD) : (V m c main_call0_v4 : Vec F S1x1024 .f32)
    = shapeCast S1x1024 (m ((c.tc : Thread nD τ).loc main_arg6) : Vec F S8x128 .f32) shapeCasts_S8x128_S1x1024 := by
  show StableHlo.after hostOps0 _ _ = _
  after_results
  rfl

/-- The experts' second weights, scaled, one above the other. -/
theorem second_entry (c : Dev nD) : (V m c main_call0_v9 : Vec F S1024x768 .bf16)
    = truncf .bf16 (shapeCast S1024x768 (mulf (m ((c.tc : Thread nD τ).loc main_arg7) : Vec F S8x128x768 .f32)
        (broadcastInDim S8x128x768 ![0, 1, 2] bcast_S8x1x768_S8x128x768_0_1_2 (broadcastInDim S8x1x768 ![0, 2] bcast_S8x768_S8x1x768_0_2
          (m ((c.tc : Thread nD τ).loc main_arg9) : Vec F S8x768 .f32)))) shapeCasts_S8x128x768_S1024x768) bitsLt_bf16_f32 := by
  show StableHlo.after hostOps0 _ _ = _
  after_results
  rfl

/-- The experts' second biases, scaled and shifted. -/
theorem shift_entry (c : Dev nD) : (V m c main_call0_v11 : Vec F S8x768 .f32)
    = addf (mulf (m ((c.tc : Thread nD τ).loc main_arg8) : Vec F S8x768 .f32) (m ((c.tc : Thread nD τ).loc main_arg9) : Vec F S8x768 .f32))
        (m ((c.tc : Thread nD τ).loc main_arg10) : Vec F S8x768 .f32) := by
  show StableHlo.after hostOps0 _ _ = _
  after_results
  rfl

/-- The gate's first bias as a row. -/
theorem gate1_entry (c : Dev nD) : (V m c main_call0_v12 : Vec F S1x384 .f32)
    = shapeCast S1x384 (m ((c.tc : Thread nD τ).loc main_arg2) : Vec F S384 .f32) shapeCasts_S384_S1x384 := by
  show StableHlo.after hostOps0 _ _ = _
  after_results
  rfl

/-- The gate's second bias as a row. -/
theorem gate2_entry (c : Dev nD) : (V m c main_call0_v13 : Vec F S1x8 .f32)
    = shapeCast S1x8 (m ((c.tc : Thread nD τ).loc main_arg4) : Vec F S8 .f32) shapeCasts_S8_S1x8 := by
  show StableHlo.after hostOps0 _ _ = _
  after_results
  rfl

/-- The norm's gain as a row. -/
theorem gain_entry (c : Dev nD) : (V m c main_call0_v14 : Vec F S1x768 .f32)
    = shapeCast S1x768 (m ((c.tc : Thread nD τ).loc main_arg11) : Vec F S768 .f32) shapeCasts_S768_S1x768 := by
  show StableHlo.after hostOps0 _ _ = _
  after_results
  rfl

/-- The norm's offset as a row. -/
theorem offset_entry (c : Dev nD) : (V m c main_call0_v15 : Vec F S1x768 .f32)
    = shapeCast S1x768 (m ((c.tc : Thread nD τ).loc main_arg12) : Vec F S768 .f32) shapeCasts_S768_S1x768 := by
  show StableHlo.after hostOps0 _ _ = _
  after_results
  rfl

end Cert.KernelIdeal.Moe
-- ==== Proof.Layer.lean ====
/- The whole layer on one token, twice: as the kernel adds it up and as the reference writes it; and the load
   loss over all tokens. -/
module

public import proofs.«01_k».proof.Proof.Spec

@[expose] public section

noncomputable section

namespace Cert.Moe

open Idealize.ShloMosaic

/-- One eighth, as a float constant. -/
abbrev eighth : EReal := Ideal.ofBits .f32 0x3E000000#32

/-- The number of tokens, as a float constant. -/
abbrev count : EReal := Ideal.ofBits .f32 0x46000000#32

/-- The small constant under the loss's logarithm. -/
abbrev tiny : EReal := Ideal.ofBits .f32 0x322BCC77#32

/-- The layer's parameters, entry by entry: the gate's two layers, the experts' two layers, the experts' scale and
    shift, the normalisation's gain and offset. -/
structure Params where
  gw1 : Fin 768 → Fin 384 → EReal
  gb1 : Fin 384 → EReal
  gw2 : Fin 384 → Fin 8 → EReal
  gb2 : Fin 8 → EReal
  we1 : Fin 8 → Fin 768 → Fin 128 → EReal
  be1 : Fin 8 → Fin 128 → EReal
  we2 : Fin 8 → Fin 128 → Fin 768 → EReal
  be2 : Fin 8 → Fin 768 → EReal
  scale : Fin 8 → Fin 768 → EReal
  shift : Fin 8 → Fin 768 → EReal
  gain : Fin 768 → EReal
  offset : Fin 768 → EReal

namespace Params

variable (P : Params) (u : Fin 768 → EReal)

/-- The gate's logits of a token. -/
def logits : Fin 8 → EReal := logit u P.gw1 P.gb1 P.gw2 P.gb2

/-- An expert's hidden unit before its activation. -/
def hidden (e : Fin 8) (f : Fin 128) : EReal := ∑ d, u d * P.we1 e d f + P.be1 e f

/-! ## As the kernel adds it up -/

/-- A token's row before normalisation: the hidden units of all experts in one row of 1024. -/
def kernelMix : Fin 768 → EReal :=
  mixed u (share (P.logits u)) (fun c => gelu (P.hidden u (c.divNat (n := 128) (m := 8)) (c.modNat (n := 128) (m := 8))))
    (fun c d => P.we2 (c.divNat (n := 128) (m := 8)) (c.modNat (n := 128) (m := 8)) d * P.scale (c.divNat (n := 128) (m := 8)) d)
    (fun e d => P.be2 e d * P.scale e d + P.shift e d)

/-- A token's normalised row. -/
def kernelRow : Fin 768 → EReal := normed (P.kernelMix u) P.gain P.offset

/-! ## As the reference writes it -/

/-- The activation, by the complementary error function. -/
def plainGelu (a : EReal) : EReal := half * a * Ideal.erfc (-a * root)

/-- Expert `e`'s output on a token. -/
def expert (e : Fin 8) (d : Fin 768) : EReal :=
  (∑ f, plainGelu (P.hidden u e f) * P.we2 e f d + P.be2 e d) * P.scale e d + P.shift e d

/-- The `r`-th greatest logit's expert, `r` 0 or 1. -/
def pick (v : Fin 8 → EReal) (r : Fin 2) : Fin 8 := rank v (r.castLE (by decide))

/-- The softmax over the two greatest logits. -/
def gate (v : Fin 8 → EReal) (r : Fin 2) : EReal :=
  Ideal.div (Ideal.exp (v (pick v r) - Finset.univ.fold max ⊥ fun k => v (pick v k)))
    (∑ l, Ideal.exp (v (pick v l) - Finset.univ.fold max ⊥ fun k => v (pick v k)))

/-- A token's row before normalisation: the token and its two experts' outputs, each by its gate. -/
def plainMix (d : Fin 768) : EReal :=
  u d + ∑ r, gate (P.logits u) r * P.expert u (pick (P.logits u) r) d

/-- A row normalised: divided by the root of its variance plus the small constant. -/
def plainNorm (y g b : Fin 768 → EReal) (d : Fin 768) : EReal :=
  Ideal.div (centred y d) (Ideal.sqrt (Ideal.div (∑ k, centred y k * centred y k) width + small)) * g d + b d

/-- A token's normalised row. -/
def plainRow : Fin 768 → EReal := plainNorm (P.plainMix u) P.gain P.offset

/-! ## The load loss -/

/-- The loss from the experts' summed gate probabilities. -/
def lossOf (s : Fin 8 → EReal) : EReal :=
  ∑ e, eighth * (Ideal.log eighth - Ideal.log (Ideal.div (s e) count + tiny))

/-- The loss of all tokens. -/
def loss (U : Fin 4 → Fin 2048 → Fin 768 → EReal) : EReal :=
  lossOf fun e => ∑ b, ∑ s, prob (P.logits (U b s)) e

end Params

end Cert.Moe
-- ==== Proof.KernelValue.lean ====
/- The kernel's two results, entry by entry, over the extended reals. -/
module

public import proofs.«01_k».proof.Proof.Arrays
public import proofs.«01_k».proof.Proof.Layer

@[expose] public section

set_option maxRecDepth 16384

noncomputable section

namespace Cert.KernelIdeal.Moe

open Idealize.ShloMosaic Idealize.ShloMosaic.TcCoe Idealize.SL.Sem Cert.KernelIdeal Cert.KernelIdeal.Gen Cert.Moe

variable (m : (ℓ : Loc nD τ sig) → Buf (Elt Ideal) ℓ) (c : Dev nD)

/-- The parameters, read off the argument arrays. -/
def params : Params where
  gw1 d h := (m ((c.tc : Thread nD τ).loc main_arg1) : Vec Ideal S768x384 .f32) (ix2 d h)
  gb1 h := (m ((c.tc : Thread nD τ).loc main_arg2) : Vec Ideal S384 .f32) (ix1 h)
  gw2 h e := (m ((c.tc : Thread nD τ).loc main_arg3) : Vec Ideal S384x8 .f32) (ix2 h e)
  gb2 e := (m ((c.tc : Thread nD τ).loc main_arg4) : Vec Ideal S8 .f32) (ix1 e)
  we1 e d f := (m ((c.tc : Thread nD τ).loc main_arg5) : Vec Ideal S8x768x128 .f32) (ix3 e d f)
  be1 e f := (m ((c.tc : Thread nD τ).loc main_arg6) : Vec Ideal S8x128 .f32) (ix2 e f)
  we2 e f d := (m ((c.tc : Thread nD τ).loc main_arg7) : Vec Ideal S8x128x768 .f32) (ix3 e f d)
  be2 e d := (m ((c.tc : Thread nD τ).loc main_arg8) : Vec Ideal S8x768 .f32) (ix2 e d)
  scale e d := (m ((c.tc : Thread nD τ).loc main_arg9) : Vec Ideal S8x768 .f32) (ix2 e d)
  shift e d := (m ((c.tc : Thread nD τ).loc main_arg10) : Vec Ideal S8x768 .f32) (ix2 e d)
  gain d := (m ((c.tc : Thread nD τ).loc main_arg11) : Vec Ideal S768 .f32) (ix1 d)
  offset d := (m ((c.tc : Thread nD τ).loc main_arg12) : Vec Ideal S768 .f32) (ix1 d)

/-- The tokens, read off the first argument. -/
def token (b : Fin 4) (s : Fin 2048) (d : Fin 768) : EReal :=
  (m ((c.tc : Thread nD τ).loc main_arg0) : Vec Ideal S4x2048x768 .f32) (ix3 b s d)

/-! ## What the host prepares -/

/-- A row of 8 × 128 laid out in 1024 places. -/
theorem flat_row (A : FVec Ideal S8x128 .f32) (h : S8x128.ShapeCasts S1x1024) (k : Fin 1024) :
    shapeCast S1x1024 A h (ix2 0 k) = A (ix2 (k.divNat (n := 128) (m := 8)) (k.modNat (n := 128) (m := 8))) := by
  pointwise
  rfl

/-- Eight blocks of 128 rows laid out in 1024 rows. -/
theorem flat_rows (A : FVec Ideal S8x128x768 .f32) (h : S8x128x768.ShapeCasts S1024x768)
    (h' : FTy.bits .bf16 < FTy.bits .f32) (k : Fin 1024) (d : Fin 768) :
    truncf .bf16 (shapeCast S1024x768 A h) h' (ix2 k d)
      = A (ix3 (k.divNat (n := 128) (m := 8)) (k.modNat (n := 128) (m := 8)) d) := by
  pointwise
  rfl

/-- Four batches of 2048 tokens laid out in 8192 rows. -/
theorem flat_tokens (A : FVec Ideal S4x2048x768 .f32) (h : S4x2048x768.ShapeCasts S8192x768) (n : Fin 8192) (d : Fin 768) :
    shapeCast S8192x768 A h (ix2 n d)
      = A (ix3 (n.divNat (n := 2048) (m := 4)) (n.modNat (n := 2048) (m := 4)) d) := by
  pointwise
  rfl

/-- The tokens in rows. -/
theorem tokens_at (n : Fin 8192) (d : Fin 768) : (V m c main_call0_v0 : Vec Ideal S8192x768 .f32) (ix2 n d)
    = token m c (n.divNat (n := 2048) (m := 4)) (n.modNat (n := 2048) (m := 4)) d := by
  rw [tokens_entry]
  exact flat_tokens _ _ n d

/-- The experts' first layers, side by side. -/
theorem first_at (d : Fin 768) (k : Fin 1024) : (V m c main_call0_v3 : Vec Ideal S768x1024 .bf16) (ix2 d k)
    = (params m c).we1 (k.divNat (n := 128) (m := 8)) d (k.modNat (n := 128) (m := 8)) := by
  rw [first_entry]
  pointwise
  rfl

/-- The experts' first biases, side by side. -/
theorem bias_at (k : Fin 1024) : (V m c main_call0_v4 : Vec Ideal S1x1024 .f32) (ix2 0 k)
    = (params m c).be1 (k.divNat (n := 128) (m := 8)) (k.modNat (n := 128) (m := 8)) := by
  rw [bias_entry]
  exact flat_row _ _ k

/-- The experts' second layers one below the other, each entry times its scale. -/
theorem second_at (k : Fin 1024) (d : Fin 768) : (V m c main_call0_v9 : Vec Ideal S1024x768 .bf16) (ix2 k d)
    = (params m c).we2 (k.divNat (n := 128) (m := 8)) (k.modNat (n := 128) (m := 8)) d
      * (params m c).scale (k.divNat (n := 128) (m := 8)) d := by
  rw [second_entry]
  refine (flat_rows _ _ _ k d).trans ?_
  pointwise
  rfl

/-- The experts' second biases, scaled and shifted. -/
theorem shift_at (e : Fin 8) (d : Fin 768) : (V m c main_call0_v11 : Vec Ideal S8x768 .f32) (ix2 e d)
    = (params m c).be2 e d * (params m c).scale e d + (params m c).shift e d := by
  rw [shift_entry]
  pointwise
  rfl

/-- The gate's first bias. -/
theorem gate1_at (h : Fin 384) : (V m c main_call0_v12 : Vec Ideal S1x384 .f32) (ix2 0 h) = (params m c).gb1 h := by
  rw [gate1_entry]
  pointwise
  rfl

/-- The gate's second bias. -/
theorem gate2_at (e : Fin 8) : (V m c main_call0_v13 : Vec Ideal S1x8 .f32) (ix2 0 e) = (params m c).gb2 e := by
  rw [gate2_entry]
  pointwise
  rfl

/-- The normalisation's gain. -/
theorem gain_at (d : Fin 768) : (V m c main_call0_v14 : Vec Ideal S1x768 .f32) (ix2 0 d) = (params m c).gain d := by
  rw [gain_entry]
  pointwise
  rfl

/-- The normalisation's offset. -/
theorem offset_at (d : Fin 768) : (V m c main_call0_v15 : Vec Ideal S1x768 .f32) (ix2 0 d) = (params m c).offset d := by
  rw [offset_entry]
  pointwise
  rfl

/-- The gate's first weights. -/
theorem weight1_at (d : Fin 768) (h : Fin 384) : (V m c main_arg1 : Vec Ideal S768x384 .f32) (ix2 d h)
    = (params m c).gw1 d h := by
  rw [V_main_arg1]
  rfl

/-- The gate's second weights. -/
theorem weight2_at (h : Fin 384) (e : Fin 8) : (V m c main_arg3 : Vec Ideal S384x8 .f32) (ix2 h e)
    = (params m c).gw2 h e := by
  rw [V_main_arg3]
  rfl

/-! ## One block of rows -/

/-- The batch a grid point works on. -/
def batch (t : Fin cfg0.N) : Fin 4 := ⟨t.val, t.isLt⟩

/-- Row `r` of slice `q` of a batch is its token `512 q + r`. -/
theorem slice_at (t : Fin cfg0.N) (q : Fin 4) (r : Fin 512) (d : Fin 768) :
    slice (tokens m c t) q (ix2 r d) = token m c (batch t) ⟨512 * q.val + r.val, by omega⟩ d := by
  have ht : t.val < 4 := t.isLt
  show (V m c main_call0_v0 : Vec Ideal S8192x768 .f32) (ix2 ⟨2048 * t.val + (512 * q.val + r.val), by omega⟩ d) = _
  rw [tokens_at]
  refine congrArg₂ (fun b s => token m c b s d) (Fin.ext ?_) (Fin.ext ?_)
  · show (2048 * t.val + (512 * q.val + r.val)) / 2048 = t.val
    omega
  · show (2048 * t.val + (512 * q.val + r.val)) % 2048 = 512 * q.val + r.val
    omega

/-- Logits of equal entries are equal. -/
theorem logit_congr {u u' : Fin 768 → EReal} {W W' : Fin 768 → Fin 384 → EReal} {b b' : Fin 384 → EReal}
    {G G' : Fin 384 → Fin 8 → EReal} {a a' : Fin 8 → EReal} (hu : ∀ d, u d = u' d) (hW : ∀ d h, W d h = W' d h)
    (hb : ∀ h, b h = b' h) (hG : ∀ h e, G h e = G' h e) (ha : ∀ e, a e = a' e) :
    logit u W b G a = logit u' W' b' G' a' := by
  obtain rfl := funext hu
  obtain rfl := funext fun d => funext (hW d)
  obtain rfl := funext hb
  obtain rfl := funext fun d => funext (hG d)
  obtain rfl := funext ha
  rfl

/-- Mixtures of equal entries are equal. -/
theorem mixed_congr {u u' : Fin 768 → EReal} {s s' : Fin 8 → EReal} {A A' : Fin 1024 → EReal}
    {W W' : Fin 1024 → Fin 768 → EReal} {b b' : Fin 8 → Fin 768 → EReal} (hu : ∀ d, u d = u' d) (hs : s = s')
    (hA : ∀ k, A k = A' k) (hW : ∀ k d, W k d = W' k d) (hb : ∀ e d, b e d = b' e d) :
    mixed u s A W b = mixed u' s' A' W' b' := by
  obtain rfl := funext hu
  obtain rfl := hs
  obtain rfl := funext hA
  obtain rfl := funext fun d => funext (hW d)
  obtain rfl := funext fun d => funext (hb d)
  rfl

/-- Normalised rows of equal entries are equal. -/
theorem normed_congr {y y' g g' b b' : Fin 768 → EReal} (hy : y = y') (hg : ∀ d, g d = g' d) (hb : ∀ d, b d = b' d) :
    normed y g b = normed y' g' b' := by
  obtain rfl := hy
  obtain rfl := funext hg
  obtain rfl := funext hb
  rfl

/-- The block's logits are the layer's. -/
theorem blockLogit_at (t : Fin cfg0.N) (q : Fin 4) (r : Fin 512) :
    blockLogit (slice (tokens m c t) q) (V m c main_arg1) (V m c main_call0_v12) (V m c main_arg3) (V m c main_call0_v13) r
      = (params m c).logits (token m c (batch t) ⟨512 * q.val + r.val, by omega⟩) :=
  logit_congr (slice_at m c t q r) (weight1_at m c) (gate1_at m c) (weight2_at m c) (gate2_at m c)

/-- The block's hidden units are the layer's. -/
theorem blockAct_at (t : Fin cfg0.N) (q : Fin 4) (r : Fin 512) (k : Fin 1024) :
    blockAct (slice (tokens m c t) q) (V m c main_call0_v4) (V m c main_call0_v3) r k
      = gelu ((params m c).hidden (token m c (batch t) ⟨512 * q.val + r.val, by omega⟩)
          (k.divNat (n := 128) (m := 8)) (k.modNat (n := 128) (m := 8))) := by
  refine congrArg gelu (congrArg₂ (· + ·) (Finset.sum_congr rfl fun d _ => ?_) (bias_at m c k))
  exact congrArg₂ (· * ·) (slice_at m c t q r d) (first_at m c d k)

/-- The block's rows before normalisation are the layer's. -/
theorem blockMix_at (t : Fin cfg0.N) (q : Fin 4) (r : Fin 512) :
    blockMix (slice (tokens m c t) q) (V m c main_arg1) (V m c main_call0_v12) (V m c main_arg3) (V m c main_call0_v13)
        (V m c main_call0_v4) (V m c main_call0_v3) (V m c main_call0_v9) (V m c main_call0_v11) r
      = (params m c).kernelMix (token m c (batch t) ⟨512 * q.val + r.val, by omega⟩) :=
  mixed_congr (slice_at m c t q r) (congrArg share (blockLogit_at m c t q r)) (blockAct_at m c t q r)
    (second_at m c) (shift_at m c)

/-- Row `s` of the rows stored for a batch. -/
theorem rowsAt_at (t : Fin cfg0.N) (s : Fin 2048) (d : Fin 768) :
    rowsAt m c t (ix2 s d) = (params m c).kernelRow (token m c (batch t) s) d := by
  have e : (⟨512 * (s.val / 512) + s.val % 512, by omega⟩ : Fin 2048) = s := Fin.ext (Nat.div_add_mod s.val 512)
  refine (rowsN_read (slice (tokens m c t) ⟨s.val / 512, by omega⟩) _ _ _ _ _ _ _ _ _ _
    ⟨s.val % 512, Nat.mod_lt _ (by decide)⟩ d).trans ?_
  refine (congrFun (normed_congr (blockMix_at m c t _ _) (gain_at m c) (offset_at m c)) d).trans ?_
  exact congrArg (fun n => (params m c).kernelRow (token m c (batch t) n) d) e

/-- A sum over a batch, slice by slice. -/
theorem sum_slices (f : Fin 2048 → EReal) :
    ∑ q : Fin 4, ∑ r : Fin 512, f ⟨512 * q.val + r.val, by omega⟩ = ∑ s, f s := by
  rw [← Equiv.sum_comp (finProdFinEquiv (m := 4) (n := 512)) f, Fintype.sum_prod_type]
  refine Finset.sum_congr rfl fun q _ => Finset.sum_congr rfl fun r _ => congrArg f (Fin.ext ?_)
  exact Nat.add_comm _ _

/-- What one slice adds to expert `e`'s load. -/
theorem probSum_at (t : Fin cfg0.N) (q : Fin 4) (e : Fin 8) :
    probSum (slice (tokens m c t) q) (V m c main_arg1) (V m c main_call0_v12) (V m c main_arg3) (V m c main_call0_v13) (ix2 e 0)
      = ∑ r : Fin 512, prob ((params m c).logits (token m c (batch t) ⟨512 * q.val + r.val, by omega⟩)) e :=
  (probSum_read _ _ _ _ _ e).trans
    (Finset.sum_congr rfl fun r _ => congrArg (fun v => prob v e) (blockLogit_at m c t q r))

/-- What a batch adds to expert `e`'s load. -/
theorem gainAt_at (t : Fin cfg0.N) (e : Fin 8) :
    gainAt m c t (ix2 e 0) = ∑ s, prob ((params m c).logits (token m c (batch t) s)) e := by
  rw [← sum_slices, Fin.sum_univ_four]
  exact congrArg₂ (· + ·) (congrArg₂ (· + ·) (congrArg₂ (· + ·) (probSum_at m c t 0 e) (probSum_at m c t 1 e))
    (probSum_at m c t 2 e)) (probSum_at m c t 3 e)

/-! ## The results -/

/-- The loads over all four batches. -/
theorem total_at (e : Fin 8) : total m c (ix2 e 0) = ∑ b, ∑ s, prob ((params m c).logits (token m c b s)) e := by
  rw [Fin.sum_univ_four]
  exact congrArg₂ (· + ·) (congrArg₂ (· + ·) (congrArg₂ (· + ·) (gainAt_at m c ⟨0, by decide⟩ e)
    (gainAt_at m c ⟨1, by decide⟩ e)) (gainAt_at m c ⟨2, by decide⟩ e)) (gainAt_at m c ⟨3, by decide⟩ e)

/-- The loss the last grid point stores, of the summed loads. -/
theorem loss_at (x : FVec Ideal S8x1 .f32) : (k0_pay4 x : FVec Ideal S1x1 .f32) (ix2 0 0)
    = Params.lossOf fun e => x (ix2 e 0) := by
  pointwise [k0_pay4]
  rfl

/-- The first result: every token's row. -/
theorem out0_at (b : Fin 4) (s : Fin 2048) (d : Fin 768) :
    (out0 m c : Vec Ideal S4x2048x768 .f32) (ix3 b s d) = (params m c).kernelRow (token m c b s) d := by
  have h : (out0 m c : Vec Ideal S4x2048x768 .f32) (ix3 b s d) = allRows m c (ix2 ⟨b.val * 2048 + s.val, by omega⟩ d) := by
    unfold out0
    pointwise
  refine h.trans ?_
  refine Eq.trans ?_ (rowsAt_at m c b s d)
  refine congrArg₂ (fun (t : Fin cfg0.N) (r : Fin 2048) => rowsAt m c t (ix2 r d)) (Fin.ext ?_) (Fin.ext ?_)
  · show (b.val * 2048 + s.val) / 2048 = b.val
    omega
  · show (b.val * 2048 + s.val) % 2048 = s.val
    omega

/-- The second result: the loss. -/
theorem out1_at (i : S_.Idx) : (out1 m c : Vec Ideal S_ .f32) i = (params m c).loss (token m c) := by
  have h : (out1 m c : Vec Ideal S_ .f32) i = (k0_pay4 (total m c) : FVec Ideal S1x1 .f32) (ix2 0 0) := by
    unfold out1
    pointwise
  rw [h, loss_at]
  unfold Params.loss
  simp only [total_at]

end Cert.KernelIdeal.Moe
-- ==== Proof.Reals.lean ====
/- Real numbers among the extended ones: what the layer's operations keep real, and the rules that hold up to
   which infinity a number is. -/
module

public import proofs.«01_k».proof.Proof.Layer
public import Idealize.ShloMosaic.PureOps.Ideal.Laws

@[expose] public section

noncomputable section

namespace Cert.Moe

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) {f : ι → EReal} (h : ∀ i, IsReal (f i)) : IsReal (∑ i ∈ s, f i) := by
  classical
  induction s using Finset.induction_on with
  | empty => exact isReal_zero
  | insert a s ha ih =>
    rw [Finset.sum_insert ha]
    exact (h a).add ih

theorem width_eq : width = ((768 : ℝ) : EReal) := by
  simp [Ideal.ofBits, Ideal.ieee, -EReal.coe_mul]; norm_num

theorem small_pos : 0 < small := by
  have h : small = ((10995116 / 1099511627776 : ℝ) : EReal) := by
    simp [Ideal.ofBits, Ideal.ieee, -EReal.coe_mul]; norm_num
  rw [h]
  exact EReal.coe_pos.mpr (by norm_num)

/-! ## What is not real -/

/-- A sum with an infinite first term is infinite. -/
theorem not_real_add_left {x : EReal} (hx : ¬ IsReal x) (y : EReal) : ¬ IsReal (x + y) := by
  rintro ⟨r, h⟩
  induction x with
  | coe a => exact hx ⟨a, rfl⟩
  | bot => rw [EReal.bot_add] at h; exact EReal.bot_ne_coe r h
  | top =>
    induction y with
    | bot => rw [EReal.add_bot] at h; exact EReal.bot_ne_coe r h
    | coe b => rw [EReal.top_add_coe] at h; exact EReal.top_ne_coe r h
    | top => rw [EReal.top_add_top] at h; exact EReal.top_ne_coe r h

/-- A sum with an infinite second term is infinite. -/
theorem not_real_add_right (x : EReal) {y : EReal} (hy : ¬ IsReal y) : ¬ IsReal (x + y) := by
  rw [add_comm]
  exact not_real_add_left hy x

/-- The negative of an infinite number is infinite. -/
theorem not_real_neg {x : EReal} (hx : ¬ IsReal x) : ¬ IsReal (-x) := by
  rintro ⟨r, h⟩
  exact hx ⟨-r, by rw [EReal.coe_neg, ← h, neg_neg]⟩

/-- An infinite number times a real that is not zero is infinite. -/
theorem not_real_mul {x : EReal} (hx : ¬ IsReal x) {q : ℝ} (hq : q ≠ 0) : ¬ IsReal (x * q) := by
  rintro ⟨r, h⟩
  refine hx ⟨r / q, ?_⟩
  rw [← mul_one x, ← EReal.coe_one, ← mul_inv_cancel₀ hq, EReal.coe_mul, ← mul_assoc, h, ← EReal.coe_mul, div_eq_mul_inv]

/-- A sum with an infinite term is infinite. -/
theorem not_real_sum {ι : Type} (s : Finset ι) {f : ι → EReal} {i : ι} (hi : i ∈ s) (h : ¬ IsReal (f i)) :
    ¬ IsReal (∑ k ∈ s, f k) := by
  classical
  rw [← Finset.add_sum_erase s f hi]
  exact not_real_add_left h _

/-- The square of an infinite number is the greatest one. -/
theorem not_real_sq {x : EReal} (hx : ¬ IsReal x) : x * x = ⊤ := by
  induction x with
  | coe a => exact absurd ⟨a, rfl⟩ hx
  | bot => rfl
  | top => rfl

/-! ## Equal, or both infinite -/

/-- Two numbers that are equal, or infinite both. -/
def Same (x y : EReal) : Prop := x = y ∨ (¬ IsReal x ∧ ¬ IsReal y)

theorem Same.rfl' (x : EReal) : Same x x := Or.inl rfl

theorem Same.trans {x y z : EReal} (h : Same x y) (k : Same y z) : Same x z := by
  rcases h with rfl | ⟨hx, hy⟩
  · exact k
  · rcases k with rfl | ⟨-, hz⟩
    · exact Or.inr ⟨hx, hy⟩
    · exact Or.inr ⟨hx, hz⟩

theorem Same.add {x y x' y' : EReal} (h : Same x y) (k : Same x' y') : Same (x + x') (y + y') := by
  rcases h with rfl | ⟨hx, hy⟩
  · rcases k with rfl | ⟨hx, hy⟩
    · exact Or.inl rfl
    · exact Or.inr ⟨not_real_add_right _ hx, not_real_add_right _ hy⟩
  · exact Or.inr ⟨not_real_add_left hx _, not_real_add_left hy _⟩

theorem Same.sum {ι : Type} (s : Finset ι) {f g : ι → EReal} (h : ∀ i, Same (f i) (g i)) :
    Same (∑ i ∈ s, f i) (∑ i ∈ s, g i) := by
  classical
  induction s using Finset.induction_on with
  | empty => exact Or.inl rfl
  | insert a s ha ih =>
    rw [Finset.sum_insert ha, Finset.sum_insert ha]
    exact (h a).add ih

theorem Same.mul {x y q : EReal} (h : Same x y) (hq : IsReal q) : Same (x * q) (y * q) := by
  obtain ⟨q, rfl⟩ := hq
  rcases h with rfl | ⟨hx, hy⟩
  · exact Or.inl rfl
  · by_cases h0 : q = 0
    · subst h0
      exact Or.inl (by simp)
    · exact Or.inr ⟨not_real_mul hx h0, not_real_mul hy h0⟩

/-- A real factor goes over a sum, up to which infinity the sum is. -/
theorem same_add_mul (x y : EReal) {q : EReal} (hq : IsReal q) : Same (x * q + y * q) ((x + y) * q) := by
  obtain ⟨q, rfl⟩ := hq
  by_cases h0 : q = 0
  · subst h0
    exact Or.inl (by simp)
  · by_cases hx : IsReal x
    · by_cases hy : IsReal y
      · obtain ⟨a, rfl⟩ := hx
        obtain ⟨b, rfl⟩ := hy
        refine Or.inl ?_
        norm_cast
        ring
      · exact Or.inr ⟨not_real_add_right _ (not_real_mul hy h0), not_real_mul (not_real_add_right x hy) h0⟩
    · exact Or.inr ⟨not_real_add_left (not_real_mul hx h0) _, not_real_mul (not_real_add_left hx y) h0⟩

/-- A real factor goes over a sum of any length, up to which infinity the sum is. -/
theorem same_sum_mul {ι : Type} (s : Finset ι) (f : ι → EReal) {q : EReal} (hq : IsReal q) :
    Same (∑ i ∈ s, f i * q) ((∑ i ∈ s, f i) * q) := by
  classical
  induction s using Finset.induction_on with
  | empty => exact Or.inl (by simp)
  | insert a s ha ih =>
    rw [Finset.sum_insert ha, Finset.sum_insert ha]
    exact ((Same.rfl' _).add ih).trans (same_add_mul _ _ hq)

/-! ## The root -/

/-- Dividing by a positive root is multiplying by the reciprocal root. -/
theorem mul_rsqrt (x z : EReal) (hz : 0 < z) : x * Ideal.rsqrt z = Ideal.div x (Ideal.sqrt z) := by
  induction z with
  | bot => exact absurd hz (by simp)
  | top =>
    show x * 0 = Ideal.div x ⊤
    unfold Ideal.div
    rw [if_neg (by simp), EReal.inv_top]
  | coe r =>
    have hr : 0 < r := EReal.coe_pos.mp hz
    have h1 : Ideal.rsqrt (r : EReal) = (((Real.sqrt r)⁻¹ : ℝ) : EReal) := by
      show (if r < 0 then ⊥ else if r = 0 then ⊤ else (((Real.sqrt r)⁻¹ : ℝ) : EReal)) = _
      rw [if_neg (by linarith), if_neg hr.ne']
    have h2 : Ideal.sqrt (r : EReal) = ((Real.sqrt r : ℝ) : EReal) := by
      show (if r < 0 then ⊥ else ((Real.sqrt r : ℝ) : EReal)) = _
      rw [if_neg (by linarith)]
    rw [h1, h2, Ideal.div_coe (Real.sqrt_pos.mpr hr).ne', one_div]

end Cert.Moe
-- ==== Proof.Equation.lean ====
/- The equation: where the gate's parameters and the experts' scale are real, the kernel's rows are the reference's. -/
module

public import proofs.«01_k».proof.Proof.Reals
public import Idealize.ShloMosaic.Lib.IdealHost

@[expose] public section

noncomputable section

namespace Cert.Moe

open Idealize.ShloMosaic

/-! ## The normalisation -/

/-- A variance is not negative. -/
theorem variance_nonneg (y : Fin 768 → EReal) : 0 ≤ Ideal.div (∑ k, centred y k * centred y k) width := by
  rw [width_eq, Ideal.div_coe (by norm_num)]
  have hs (x : EReal) : 0 ≤ x * x := by
    rcases le_total 0 x with h | h
    · exact mul_nonneg h h
    · rw [← neg_mul_neg]
      exact mul_nonneg (EReal.neg_nonneg.mpr h) (EReal.neg_nonneg.mpr h)
  exact mul_nonneg (Finset.sum_nonneg fun k _ => hs _) (EReal.coe_nonneg.mpr (by norm_num))

/-- The two normalisations agree on every row. -/
theorem normed_eq (y g b : Fin 768 → EReal) : normed y g b = Params.plainNorm y g b := by
  funext d
  unfold normed Params.plainNorm
  rw [mul_rsqrt _ _ (lt_of_lt_of_le small_pos (le_add_of_nonneg_left (variance_nonneg y)))]

/-- The mean of a row with an infinite entry is infinite. -/
theorem mean_not_real {y : Fin 768 → EReal} {k : Fin 768} (h : ¬ IsReal (y k)) : ¬ IsReal (Ideal.div (∑ k, y k) width) := by
  rw [width_eq, Ideal.div_coe (by norm_num)]
  exact not_real_mul (not_real_sum _ (Finset.mem_univ k) h) (by norm_num)

/-- Centred, a row with an infinite entry is infinite throughout. -/
theorem centred_not_real {y : Fin 768 → EReal} {k : Fin 768} (h : ¬ IsReal (y k)) (d : Fin 768) : ¬ IsReal (centred y d) :=
  not_real_add_right (y d) (not_real_neg (mean_not_real h))

/-- A row with an infinite entry has infinite variance: normalised, it is the offset. -/
theorem normed_not_real {y : Fin 768 → EReal} {k : Fin 768} (h : ¬ IsReal (y k)) (g b : Fin 768 → EReal) : normed y g b = b := by
  have hs : ∑ l, centred y l * centred y l = ⊤ := by
    rw [Finset.sum_congr rfl fun l _ => not_real_sq (centred_not_real h l)]
    rw [Finset.sum_const, Finset.card_univ, Fintype.card_fin, EReal.nsmul_eq_mul]
    exact EReal.mul_top_of_pos (by norm_num)
  have hr : Ideal.rsqrt (Ideal.div (∑ l, centred y l * centred y l) width + small) = 0 := by
    rw [hs, width_eq, Ideal.div_coe (by norm_num), EReal.top_mul_coe_of_pos (by norm_num),
      EReal.top_add_of_ne_bot (ne_bot_of_gt small_pos)]
    rfl
  funext d
  unfold normed
  rw [hr, mul_zero, zero_mul, zero_add]

/-- Rows whose entries are equal or both infinite have one normalisation. -/
theorem normed_same {y z : Fin 768 → EReal} (h : ∀ d, Same (y d) (z d)) (g b : Fin 768 → EReal) : normed y g b = normed z g b := by
  by_cases hk : ∃ k, ¬ IsReal (y k) ∧ ¬ IsReal (z k)
  · obtain ⟨k, hy, hz⟩ := hk
    rw [normed_not_real hy, normed_not_real hz]
  · have e : y = z := funext fun d => (h d).resolve_right fun hd => hk ⟨d, hd⟩
    rw [e]

/-! ## The activation -/

/-- The two activations agree everywhere. -/
theorem gelu_eq (a : EReal) : gelu a = Params.plainGelu a := by
  unfold gelu Params.plainGelu
  rw [neg_mul, Ideal.erfc_neg, mul_comm a half]

/-! ## The gates -/

/-- The greatest entry is the one of rank 0. -/
theorem le_first (v : Fin 8 → EReal) (k : Fin 8) : v k ≤ v (rank v 0) := (isFirst_rank_zero v).1 k

/-- The exponential of a real is a positive real. -/
theorem exp_coe (r : ℝ) : Ideal.exp (r : EReal) = ((Real.exp r : ℝ) : EReal) := rfl

variable {v : Fin 8 → EReal} (hv : ∀ k, IsReal (v k))

include hv

/-- The second greatest logit less the greatest, exponentiated. -/
theorem ratio_eq : ratio v = Ideal.exp (v (rank v 1) - v (rank v 0)) := by
  have hb (k : Fin 8) : v k ≠ ⊥ := by
    obtain ⟨r, h⟩ := hv k
    rw [h]
    exact EReal.coe_ne_bot r
  unfold ratio
  rw [top_mask v hb, top_rank]

theorem ratio_pos : ∃ r : ℝ, 0 < r ∧ ratio v = (r : EReal) := by
  obtain ⟨a, ha⟩ := hv (rank v 1)
  obtain ⟨b, hb⟩ := hv (rank v 0)
  refine ⟨Real.exp (a - b), Real.exp_pos _, ?_⟩
  rw [ratio_eq hv, ha, hb, ← EReal.coe_sub, exp_coe]

theorem first_share : ∃ r : ℝ, 0 < r ∧ Ideal.div 1 (1 + ratio v) = (r : EReal) := by
  obtain ⟨r, hr, h⟩ := ratio_pos hv
  refine ⟨1 / (1 + r), by positivity, ?_⟩
  have e : (1 : EReal) + ratio v = ((1 + r : ℝ) : EReal) := by
    rw [h, EReal.coe_add, EReal.coe_one]
  rw [e, Ideal.div_coe (by positivity), one_mul]

/-- The share of an expert is a real number. -/
theorem share_real (e : Fin 8) : IsReal (share v e) := by
  obtain ⟨r, hr, h⟩ := ratio_pos hv
  obtain ⟨q, hq, h'⟩ := first_share hv
  unfold share
  rw [h', h]
  split_ifs
  · exact isReal_coe q
  · exact (isReal_coe r).mul (isReal_coe q)
  · exact isReal_zero

/-- The greater of the two greatest is the greatest. -/
theorem fold_pick : (Finset.univ.fold max ⊥ fun k : Fin 2 => v (Params.pick v k)) = v (rank v 0) := by
  have h : (Finset.univ.fold max ⊥ fun k : Fin 2 => v (Params.pick v k))
      = max (v (Params.pick v 0)) (max (v (Params.pick v 1)) ⊥) := by
    rfl
  rw [h, max_eq_left bot_le]
  exact max_eq_left (le_first v _)

theorem exp_self (k : Fin 8) : Ideal.exp (v k - v k) = 1 := by
  obtain ⟨r, h⟩ := hv k
  rw [h, ← EReal.coe_sub, sub_self, exp_coe, Real.exp_zero, EReal.coe_one]

theorem denominator : (∑ l, Ideal.exp (v (Params.pick v l) - Finset.univ.fold max ⊥ fun k => v (Params.pick v k))) = 1 + ratio v := by
  rw [Fin.sum_univ_two, fold_pick hv, ratio_eq hv]
  exact congrArg (fun z => z + Ideal.exp (v (rank v 1) - v (rank v 0))) (exp_self hv (rank v 0))

/-- The greatest logit's gate is its expert's share. -/
theorem gate_zero : Params.gate v 0 = share v (rank v 0) := by
  unfold Params.gate share
  rw [denominator hv, fold_pick hv, if_pos ((isFirst_iff v _).mpr rfl)]
  exact congrArg (fun z => Ideal.div z (1 + ratio v)) (exp_self hv (rank v 0))

/-- The second greatest logit's gate is its expert's share. -/
theorem gate_one : Params.gate v 1 = share v (rank v 1) := by
  have hb (k : Fin 8) : v k ≠ ⊥ := by
    obtain ⟨r, h⟩ := hv k
    rw [h]
    exact EReal.coe_ne_bot r
  have hn : (1 : EReal) + ratio v ≠ 0 := by
    obtain ⟨r, hr, h⟩ := ratio_pos hv
    rw [h, ← EReal.coe_one, ← EReal.coe_add]
    exact fun h => absurd (EReal.coe_eq_zero.mp h) (by positivity)
  unfold Params.gate share
  rw [denominator hv, fold_pick hv, if_neg (fun h => rank_ne v (show (1 : Fin 8) ≠ 0 by decide) ((isFirst_iff v _).mp h)),
    if_pos ((isFirst_mask_iff v hb _).mpr rfl), Ideal.mul_one_div hn, ratio_eq hv]
  rfl

/-- A sum weighted by the shares has two terms: the gated ones. -/
theorem sum_share (S : Fin 8 → EReal) : ∑ e, share v e * S e = ∑ r, Params.gate v r * S (Params.pick v r) := by
  have hb (k : Fin 8) : v k ≠ ⊥ := by
    obtain ⟨r, h⟩ := hv k
    rw [h]
    exact EReal.coe_ne_bot r
  rw [Fin.sum_univ_two, gate_zero hv, gate_one hv]
  refine Finset.sum_eq_add (rank v 0) (rank v 1) (rank_ne v (by decide)) (fun e _ he => ?_)
    (fun h => absurd (Finset.mem_univ _) h) (fun h => absurd (Finset.mem_univ _) h)
  have h0 : share v e = 0 := by
    unfold share
    rw [if_neg (fun h => he.1 ((isFirst_iff v e).mp h)), if_neg (fun h => he.2 ((isFirst_mask_iff v hb e).mp h))]
  rw [h0, zero_mul]

omit hv

/-! ## The rows -/

/-- The parameters that have to be real: the gate's and the experts' scale. -/
structure Params.Real (P : Params) : Prop where
  gw1 : ∀ d h, IsReal (P.gw1 d h)
  gb1 : ∀ h, IsReal (P.gb1 h)
  gw2 : ∀ h e, IsReal (P.gw2 h e)
  gb2 : ∀ e, IsReal (P.gb2 e)
  scale : ∀ e d, IsReal (P.scale e d)

variable {P : Params} (hP : P.Real) {u : Fin 768 → EReal}

/-- The long row's sum, expert by expert. -/
theorem long_sum (d : Fin 768) : (∑ c : Fin 1024, gelu (P.hidden u (c.divNat (n := 128) (m := 8)) (c.modNat (n := 128) (m := 8)))
        * share (P.logits u) (c.divNat (n := 128) (m := 8))
        * (P.we2 (c.divNat (n := 128) (m := 8)) (c.modNat (n := 128) (m := 8)) d * P.scale (c.divNat (n := 128) (m := 8)) d))
      = ∑ e, ∑ f, gelu (P.hidden u e f) * share (P.logits u) e * (P.we2 e f d * P.scale e d) := by
  rw [← Fintype.sum_prod_type' (f := fun e f => gelu (P.hidden u e f) * share (P.logits u) e * (P.we2 e f d * P.scale e d))]
  exact Equiv.sum_comp (finProdFinEquiv (m := 8) (n := 128)).symm
    (fun p => gelu (P.hidden u p.1 p.2) * share (P.logits u) p.1 * (P.we2 p.1 p.2 d * P.scale p.1 d))

include hP

section real

variable (hu : ∀ d, IsReal (u d))

include hu

/-- The logits of a real token are real. -/
theorem logits_real (e : Fin 8) : IsReal (P.logits u e) :=
  (IsReal.sum _ fun h => (((IsReal.sum _ fun d => (hu d).mul (hP.gw1 d h)).add (hP.gb1 h)).max isReal_zero).mul (hP.gw2 h e)).add
    (hP.gb2 e)

/-- One expert's part of the long row, and its part of the biases, is its share times its output, or infinite as that is. -/
theorem expert_same (e : Fin 8) (d : Fin 768) :
    Same ((∑ f, gelu (P.hidden u e f) * share (P.logits u) e * (P.we2 e f d * P.scale e d))
        + share (P.logits u) e * (P.be2 e d * P.scale e d + P.shift e d))
      (share (P.logits u) e * P.expert u e d) := by
  have hs := share_real (logits_real hP hu) e
  have hk := hP.scale e d
  have h1 : Same (∑ f, gelu (P.hidden u e f) * share (P.logits u) e * (P.we2 e f d * P.scale e d))
      ((∑ f, gelu (P.hidden u e f) * P.we2 e f d) * P.scale e d * share (P.logits u) e) := by
    have h := same_sum_mul Finset.univ (fun f => gelu (P.hidden u e f) * P.we2 e f d) (hk.mul hs)
    rw [← mul_assoc] at h
    refine Same.trans (Or.inl (Finset.sum_congr rfl fun f _ => ?_)) h
    rw [mul_mul_mul_comm, mul_comm (share (P.logits u) e)]
  have h2 := (same_add_mul ((∑ f, gelu (P.hidden u e f) * P.we2 e f d) * P.scale e d) (P.be2 e d * P.scale e d + P.shift e d) hs)
  have h3 := ((same_add_mul (∑ f, gelu (P.hidden u e f) * P.we2 e f d) (P.be2 e d) hk).add (Same.rfl' (P.shift e d))).mul hs
  rw [add_assoc] at h3
  refine (h1.add (Or.inl (mul_comm _ _))).trans (h2.trans (h3.trans (Or.inl ?_)))
  unfold Params.expert
  rw [mul_comm]
  simp only [gelu_eq]

end real

/-- Before normalisation the kernel's row is the reference's, or infinite where that is. -/
theorem mix_same (hu : ∀ d, IsReal (u d)) (d : Fin 768) : Same (P.kernelMix u d) (P.plainMix u d) := by
  unfold Params.kernelMix mixed Params.plainMix
  rw [long_sum, ← Finset.sum_add_distrib, add_comm, ← sum_share (logits_real hP hu) fun e => P.expert u e d]
  exact (Same.rfl' (u d)).add (Same.sum _ fun e => expert_same hP hu e d)

/-- The kernel's normalised row is the reference's: for a real token the rows before are the same or infinite
    at the same places, and for one with an infinite entry both are infinite there. -/
theorem row_eq (u : Fin 768 → EReal) : P.kernelRow u = P.plainRow u := by
  unfold Params.kernelRow Params.plainRow
  rw [← normed_eq]
  by_cases hu : ∀ d, IsReal (u d)
  · exact normed_same (mix_same hP hu) _ _
  · obtain ⟨d, hd⟩ := not_forall.mp hu
    have hk : ¬ IsReal (P.kernelMix u d) := not_real_add_right _ hd
    have hp : ¬ IsReal (P.plainMix u d) := not_real_add_left hd _
    rw [normed_not_real hk, normed_not_real hp]

end Cert.Moe
-- ==== Proof.Finite.lean ====
/- The precondition: its shape facts, and what it says of the arrays it names. -/
module

public import proofs.«01_k».proof.Defs
public import proofs.«01_k».proof.Proof.KernelValue
public import proofs.«01_k».proof.Proof.Equation

@[expose] public section

set_option maxRecDepth 16384

noncomputable section

namespace Cert.Moe

open Idealize.ShloMosaic Idealize.ShloMosaic.TcCoe Idealize.SL.Sem

/-- The shape facts the precondition states. -/
theorem finiteFacts : Cert.Pre_finite.Facts where
  bcast_S_S768x384 := by decide
  bcast_S_S384 := by decide
  bcast_S_S384x8 := by decide
  bcast_S_S8 := by decide
  bcast_S_S8x768 := by decide

/-- A number whose absolute value is below infinity is real. -/
theorem isReal_of_lt (x : EReal) (h : max x (-x) < ⊤) : IsReal x := by
  induction x with
  | bot => exact absurd h (by simp)
  | top => exact absurd h (by simp)
  | coe r => exact ⟨r, rfl⟩

/-- The float constant +∞ is the greatest extended real. -/
theorem greatest : Ideal.ofBits FTy.f32 0x7F800000#32 = ⊤ := by
  simp [Ideal.ofBits, Ideal.ieee]

/-- An array whose marks "absolute value below infinity" are all set holds real numbers. -/
theorem real_of_marks {s : Shape} (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32 : FVec Ideal Cert.Pre_finite.S_ .f32))
      = fun _ => 1#1) (i : s.Idx) : IsReal (x i) := by
  have e : BitVec.ofBool (decide (max (x i) (-(x i)) < Ideal.ofBits FTy.f32 0x7F800000#32)) = 1#1 := congrFun h i
  rw [greatest] at e
  by_cases hlt : max (x i) (-(x i)) < ⊤
  · exact isReal_of_lt _ hlt
  · rw [decide_eq_false hlt] at e
    exact absurd e (by decide)

open Cert.KernelIdeal Cert.KernelIdeal.Moe

variable (m : (ℓ : Loc nD τ sig) → Buf (Elt Ideal) ℓ) (h : Pre_KernelIdeal_finite (hPre_finite := finiteFacts) m) (c : Dev nD)

include h

/-- Under the precondition the parameters it names are real. -/
theorem params_real : (params m c).Real := by
  obtain ⟨h1, h2, h3, h4, h9⟩ := h c
  exact {
    gw1 := fun d k => real_of_marks _ finiteFacts.bcast_S_S768x384 h1 (ix2 d k)
    gb1 := fun k => real_of_marks _ finiteFacts.bcast_S_S384 h2 (ix1 k)
    gw2 := fun k e => real_of_marks _ finiteFacts.bcast_S_S384x8 h3 (ix2 k e)
    gb2 := fun e => real_of_marks _ finiteFacts.bcast_S_S8 h4 (ix1 e)
    scale := fun e d => real_of_marks _ finiteFacts.bcast_S_S8x768 h9 (ix2 e d) }

end Cert.Moe
-- ==== Proof.RefLogits.lean ====
/- The reference's gate: a token's logits, its probabilities and the loss. -/
module

public import proofs.«01_k».proof.Proof.Gen.ReferenceIdeal.Read
public import proofs.«01_k».proof.Proof.Layer
public import Idealize.ShloMosaic.Lib.Pointwise

@[expose] public section

set_option maxRecDepth 16384

noncomputable section

namespace Cert.ReferenceIdeal.Moe

open Idealize.ShloMosaic Idealize.ShloMosaic.StableHlo Idealize.ShloMosaic.TcCoe Idealize.SL.Sem Cert.ReferenceIdeal Cert.ReferenceIdeal.Gen
  Cert.ReferenceIdeal.Read Cert.Moe

/-- The parameters, read off the argument arrays. -/
def paramsOf (x1 : Vec Ideal S768x384 .f32) (x2 : Vec Ideal S384 .f32) (x3 : Vec Ideal S384x8 .f32) (x4 : Vec Ideal S8 .f32)
    (x5 : Vec Ideal S8x768x128 .f32) (x6 : Vec Ideal S8x128 .f32) (x7 : Vec Ideal S8x128x768 .f32)
    (x8 x9 x10 : Vec Ideal S8x768 .f32) (x11 x12 : Vec Ideal S768 .f32) : Params where
  gw1 d h := x1 (ix2 d h)
  gb1 h := x2 (ix1 h)
  gw2 h e := x3 (ix2 h e)
  gb2 e := x4 (ix1 e)
  we1 e d f := x5 (ix3 e d f)
  be1 e f := x6 (ix2 e f)
  we2 e f d := x7 (ix3 e f d)
  be2 e d := x8 (ix2 e d)
  scale e d := x9 (ix2 e d)
  shift e d := x10 (ix2 e d)
  gain d := x11 (ix1 d)
  offset d := x12 (ix1 d)

/-- A token's row, read off the first argument. -/
def row (x0 : Vec Ideal S4x2048x768 .f32) (n : Fin 8192) (d : Fin 768) : EReal :=
  x0 (ix3 (n.divNat (n := 2048) (m := 4)) (n.modNat (n := 2048) (m := 4)) d)

/-- A token's logits, read off the arguments. -/
def rowLogit (x0 : Vec Ideal S4x2048x768 .f32) (x1 : Vec Ideal S768x384 .f32) (x2 : Vec Ideal S384 .f32)
    (x3 : Vec Ideal S384x8 .f32) (x4 : Vec Ideal S8 .f32) (n : Fin 8192) : Fin 8 → EReal :=
  logit (row x0 n) (fun d h => x1 (ix2 d h)) (fun h => x2 (ix1 h)) (fun h e => x3 (ix2 h e)) (fun e => x4 (ix1 e))

variable (x0 : Vec Ideal S4x2048x768 .f32) (x1 : Vec Ideal S768x384 .f32) (x2 : Vec Ideal S384 .f32)
  (x3 : Vec Ideal S384x8 .f32) (x4 : Vec Ideal S8 .f32)

/-- The float constant −∞ is the least extended real. -/
theorem least : Ideal.ofBits FTy.f32 4286578688#32 = ⊥ := by
  simp [Ideal.ofBits, Ideal.ieee]

/-- The tokens in rows. -/
theorem v0_at (n : Fin 8192) (d : Fin 768) : val_main_v0 (F := Ideal) x0 (ix2 n d) = row x0 n d := by
  unfold val_main_v0
  pointwise
  rfl

/-- The logits. -/
theorem v9_at (n : Fin 8192) (e : Fin 8) :
    val_main_v9 (F := Ideal) x0 x1 x2 x3 x4 (ix2 n e) = rowLogit x0 x1 x2 x3 x4 n e := by
  unfold val_main_v9 val_main_v6 val_main_v5 val_main_v4 val_main_v1
  have h (n : Fin 8192) (d : Fin 768) := v0_at x0 n d
  revert h
  generalize val_main_v0 (F := Ideal) x0 = y
  intro h
  pointwise [val_main_v8, val_main_v7, val_main_call0_v0, val_main_call0_cst, val_main_v3, val_main_v2, h]
  rfl

/-- The greatest logit. -/
theorem v23_at (n : Fin 8192) : val_main_v23 (F := Ideal) x0 x1 x2 x3 x4 (ix1 n) = top (rowLogit x0 x1 x2 x3 x4 n) := by
  unfold val_main_v23 val_main_v21
  have h (n : Fin 8192) (e : Fin 8) := v9_at x0 x1 x2 x3 x4 n e
  revert h
  generalize val_main_v9 (F := Ideal) x0 x1 x2 x3 x4 = y
  intro h
  pointwise [val_main_v22, val_main_cst_3, val_main_cst_2, h]
  rw [least]
  exact max_eq_right bot_le

/-- The probabilities. -/
theorem v31_at (n : Fin 8192) (e : Fin 8) :
    val_main_v31 (F := Ideal) x0 x1 x2 x3 x4 (ix2 n e) = prob (rowLogit x0 x1 x2 x3 x4 n) e := by
  unfold val_main_v31 val_main_v30 val_main_v29 val_main_v28 val_main_v27 val_main_v26 val_main_v25 val_main_v24
  have h (n : Fin 8192) (e : Fin 8) := v9_at x0 x1 x2 x3 x4 n e
  have h' (n : Fin 8192) := v23_at x0 x1 x2 x3 x4 n
  revert h h'
  generalize val_main_v9 (F := Ideal) x0 x1 x2 x3 x4 = y
  generalize val_main_v23 (F := Ideal) x0 x1 x2 x3 x4 = y'
  intro h h'
  pointwise [val_main_cst_4, h, h']
  rfl

/-- The loss. -/
theorem v44_at (i : S_.Idx) :
    val_main_v44 (F := Ideal) x0 x1 x2 x3 x4 i = Params.lossOf fun e => ∑ n, prob (rowLogit x0 x1 x2 x3 x4 n) e := by
  unfold val_main_v44 val_main_v43 val_main_v41 val_main_v38 val_main_v37 val_main_v34 val_main_v32
  have h (n : Fin 8192) (e : Fin 8) := v31_at x0 x1 x2 x3 x4 n e
  revert h
  generalize val_main_v31 (F := Ideal) x0 x1 x2 x3 x4 = y
  intro h
  pointwise [val_main_cst_10, val_main_v42, val_main_cst_9, val_main_v40, val_main_v39, val_main_cst_8, val_main_v36, val_main_v35, val_main_cst_7, val_main_v33, val_main_cst_6, val_main_cst_5, h]
  rfl

end Cert.ReferenceIdeal.Moe
-- ==== Proof.RefPick.lean ====
/- The reference's choice: the two greatest logits of each token, their softmax, and what is gathered by their
   positions. -/
module

public import proofs.«01_k».proof.Proof.RefLogits

@[expose] public section

set_option maxRecDepth 16384

noncomputable section

namespace Cert.ReferenceIdeal.Moe

open Idealize.ShloMosaic Idealize.ShloMosaic.StableHlo Idealize.ShloMosaic.TcCoe Idealize.SL.Sem Cert.ReferenceIdeal
  Cert.ReferenceIdeal.Gen Cert.ReferenceIdeal.Read Cert.Moe

/-! ## The two greatest of a row -/

/-- The place in a row of eight that a place among the first two stands for. -/
abbrev wide (r : Fin 2) : Fin 8 := r.castLE (by decide)

/-- Sorting a row by "greater first" puts the row's ranks in order. -/
theorem sorted_rank (x : FVec Ideal S8192x8 .f32) (n : Fin 8192) (r : Fin 2) :
    sortedFrom (fun k k' : Fin 8 => FloatOps.cmpfTotal (F := Ideal) (φ := .f32) .gt (x (ix2 n k)) (x (ix2 n k')) == 1#1) (wide r)
      = Params.pick (fun e => x (ix2 n e)) r := by
  unfold Params.pick rank
  refine congrArg (fun b : Fin 8 → Fin 8 → Bool => sortedFrom b (wide r)) (funext fun k => funext fun k' => ?_)
  rw [Ideal.cmpfTotal_def]
  show (BitVec.ofBool (decide (x (ix2 n k') < x (ix2 n k))) == 1#1) = _
  cases decide (x (ix2 n k') < x (ix2 n k)) <;> rfl

/-- A place of a row, moved along the row. -/
theorem along_row (n : Fin 8192) (k k' : Fin 8) : (ix2 n k : S8192x8.Idx).along (1 : Fin 2) k' = ix2 n k' := by
  funext a
  match a with
  | ⟨0, _⟩ => rfl
  | ⟨1, _⟩ => rfl

/-- A sort of two arrays along their rows, read at a place: both at the place its element came from. -/
theorem sort2_at {α β : Type} (cmp : α × β → α × β → BitVec 1) (x : S8192x8.Idx → α) (y : S8192x8.Idx → β) (n : Fin 8192)
    (k : Fin 8) :
    ((Host.sort2 S8192x8 1 cmp x y).1 (ix2 n k), (Host.sort2 S8192x8 1 cmp x y).2 (ix2 n k))
      = (x (ix2 n (sortedFrom (fun k k' => cmp (x (ix2 n k), y (ix2 n k)) (x (ix2 n k'), y (ix2 n k')) == 1#1) k)),
         y (ix2 n (sortedFrom (fun k k' => cmp (x (ix2 n k), y (ix2 n k)) (x (ix2 n k'), y (ix2 n k')) == 1#1) k))) := by
  have e : (fun k k' : Fin 8 => cmp (x ((ix2 n k : S8192x8.Idx).along (1 : Fin 2) k), y ((ix2 n k : S8192x8.Idx).along (1 : Fin 2) k))
        (x ((ix2 n k : S8192x8.Idx).along (1 : Fin 2) k'), y ((ix2 n k : S8192x8.Idx).along (1 : Fin 2) k')) == 1#1)
      = fun k k' => cmp (x (ix2 n k), y (ix2 n k)) (x (ix2 n k'), y (ix2 n k')) == 1#1 := by
    simp only [along_row]
  unfold Host.sort2
  rw [dif_pos (show 1 < S8192x8.rank by decide)]
  refine Prod.ext (congrArg x ?_) (congrArg y ?_)
  all_goals
    refine (along_row n k _).trans (congrArg (fun b => ix2 n (sortedFrom b k)) ?_)
    funext i i'
    exact congrArg₂ (fun p q => cmp (x p, y p) (x q, y q) == 1#1) (along_row n k i) (along_row n k i')

/-- The values of the two greatest. -/
theorem topK_value (x : FVec Ideal S8192x8 .f32) (h : S8192x8.Slices (fun _ => 0) S8192x2) (n : Fin 8192) (r : Fin 2) :
    (Host.topK S8192x2 1 (FloatOps.cmpfTotal (F := Ideal) (φ := .f32) .gt) x h).1 (ix2 n r)
      = x (ix2 n (Params.pick (fun e => x (ix2 n e)) r)) := by
  unfold Host.topK
  dsimp only
  generalize hy : (fun i : S8192x8.Idx => if hd : 1 < S8192x8.rank then iotaInDim S8192x8 32 ⟨1, hd⟩ i else 0#32) = y
  have e := congrArg Prod.fst (sort2_at (fun l r => FloatOps.cmpfTotal (F := Ideal) (φ := .f32) .gt l.1 r.1) x y n (wide r))
  dsimp only at e
  rw [sorted_rank] at e
  refine Eq.trans ?_ e
  generalize (Host.sort2 S8192x8 1 _ x y).1 = z
  pointwise
  rfl

/-- The positions of the two greatest. -/
theorem topK_place (x : FVec Ideal S8192x8 .f32) (h : S8192x8.Slices (fun _ => 0) S8192x2) (n : Fin 8192) (r : Fin 2) :
    (Host.topK S8192x2 1 (FloatOps.cmpfTotal (F := Ideal) (φ := .f32) .gt) x h).2 (ix2 n r)
      = BitVec.ofNat 32 (Params.pick (fun e => x (ix2 n e)) r).val := by
  unfold Host.topK
  dsimp only
  generalize hy : (fun i : S8192x8.Idx => if hd : 1 < S8192x8.rank then iotaInDim S8192x8 32 ⟨1, hd⟩ i else 0#32) = y
  have e := congrArg Prod.snd (sort2_at (fun l r => FloatOps.cmpfTotal (F := Ideal) (φ := .f32) .gt l.1 r.1) x y n (wide r))
  dsimp only at e
  rw [sorted_rank] at e
  refine Eq.trans ?_ (e.trans ?_)
  · generalize (Host.sort2 S8192x8 1 _ x y).2 = z
    pointwise
    rfl
  · rw [← hy]
    rfl

/-! ## Gathering rows -/

/-- The number of a small word, read signed. -/
theorem word_val (k : ℕ) (hk : k < 8192) : (BitVec.ofNat 32 k).toInt = k := by
  have h : (BitVec.ofNat 32 k).toNat = k := by
    rw [BitVec.toNat_ofNat]
    omega
  rw [BitVec.toInt_eq_toNat_of_lt (by omega), h]

/-- The wrap of negative positions leaves a small word. -/
theorem word_kept (k : ℕ) (hk : k < 8192) (a : BitVec 32) :
    Scalar.select (IntOp.cmpi .slt (BitVec.ofNat 32 k) 0#32) a (BitVec.ofNat 32 k) = BitVec.ofNat 32 k := by
  have h : IntOp.cmpi .slt (BitVec.ofNat 32 k) 0#32 = 0#1 := by
    show BitVec.ofBool ((BitVec.ofNat 32 k).slt 0#32) = 0#1
    have : (BitVec.ofNat 32 k).slt 0#32 = false := by
      unfold BitVec.slt
      rw [word_val k hk]
      simp
    rw [this]
    rfl
  rw [h]
  rfl

/-- The gather's dimension numbers. -/
abbrev gDims : GatherDims S8192x8x768 S8192x2x2 S8192x2x768 := gather_S8192x8x768_S8192x2x2_S8192x2x768_2_01_n_n_01_2_11768

/-- The gather reads the row its two start components name. -/
theorem gather_at (x : FVec Ideal S8192x8x768 .f32) (idx : IVec S8192x2x2 32) (n : Fin 8192) (r : Fin 2) (d : Fin 768)
    (n' : Fin 8192) (e : Fin 8) (hn : idx (ix3 n r 0) = BitVec.ofNat 32 n'.val) (he : idx (ix3 n r 1) = BitVec.ofNat 32 e.val) :
    Host.gather gDims x idx (ix3 n r d) = x (ix3 n' e d) := by
  unfold Host.gather
  refine congrArg x (funext fun a => Fin.ext ?_)
  show gDims.start (ix3 n r d) idx a + gDims.batchCoord (ix3 n r d) a + gDims.offCoord (ix3 n r d) a = _
  rw [GatherDims.batchCoord_eq_zero _ _ _ List.not_mem_nil]
  match a with
  | ⟨0, h⟩ =>
    rw [GatherDims.offCoord_eq_zero _ _ _ (fun h => ((GatherDims.mem_sKept _ _).mp h).1 (show (0 : Fin 3) ∈ [(0 : Fin 3), 1] by decide))]
    unfold GatherDims.start
    rw [dif_pos (show (⟨0, h⟩ : Fin S8192x8x768.rank) ∈ gDims.startIndexMap from (by decide : (0 : Fin 3) ∈ [(0 : Fin 3), 1]))]
    have hs : gDims.siIdx (ix3 n r d) ⟨List.idxOf (0 : Fin 3) gDims.startIndexMap,
        List.idxOf_lt_length_iff.2 (show (0 : Fin 3) ∈ [(0 : Fin 3), 1] by decide)⟩ = ix3 n r 0 := by
      funext b
      refine Fin.ext ?_
      match b with
      | ⟨0, _⟩ => rfl
      | ⟨1, _⟩ => rfl
      | ⟨2, _⟩ => rfl
    have hv : (idx (gDims.siIdx (ix3 n r d) ⟨List.idxOf (0 : Fin 3) gDims.startIndexMap,
        List.idxOf_lt_length_iff.2 (show (0 : Fin 3) ∈ [(0 : Fin 3), 1] by decide)⟩)).toInt.toNat = n'.val := by
      rw [hs, hn, word_val _ n'.isLt]
      rfl
    refine (congrArg (fun z => min z (8192 - 1) + 0 + 0) hv).trans ?_
    show min n'.val (8192 - 1) + 0 + 0 = n'.val
    have := n'.isLt
    omega
  | ⟨1, h⟩ =>
    rw [GatherDims.offCoord_eq_zero _ _ _ (fun h => ((GatherDims.mem_sKept _ _).mp h).1 (show (1 : Fin 3) ∈ [(0 : Fin 3), 1] by decide))]
    unfold GatherDims.start
    rw [dif_pos (show (⟨1, h⟩ : Fin S8192x8x768.rank) ∈ gDims.startIndexMap from (by decide : (1 : Fin 3) ∈ [(0 : Fin 3), 1]))]
    have hs : gDims.siIdx (ix3 n r d) ⟨List.idxOf (1 : Fin 3) gDims.startIndexMap,
        List.idxOf_lt_length_iff.2 (show (1 : Fin 3) ∈ [(0 : Fin 3), 1] by decide)⟩ = ix3 n r 1 := by
      funext b
      refine Fin.ext ?_
      match b with
      | ⟨0, _⟩ => rfl
      | ⟨1, _⟩ => rfl
      | ⟨2, _⟩ => rfl
    have hv : (idx (gDims.siIdx (ix3 n r d) ⟨List.idxOf (1 : Fin 3) gDims.startIndexMap,
        List.idxOf_lt_length_iff.2 (show (1 : Fin 3) ∈ [(0 : Fin 3), 1] by decide)⟩)).toInt.toNat = e.val := by
      rw [hs, he, word_val _ (by omega)]
      rfl
    refine (congrArg (fun z => min z (8 - 1) + 0 + 0) hv).trans ?_
    show min e.val (8 - 1) + 0 + 0 = e.val
    have := e.isLt
    omega
  | ⟨2, h⟩ =>
    have hs : gDims.start (ix3 n r d) idx (2 : Fin 3) = 0 := by
      unfold GatherDims.start
      rw [dif_neg (show (2 : Fin S8192x8x768.rank) ∉ gDims.startIndexMap from (by decide : (2 : Fin 3) ∉ [(0 : Fin 3), 1]))]
    have ho : gDims.offCoord (ix3 n r d) (2 : Fin 3) = d.val := by
      unfold GatherDims.offCoord
      rw [dif_pos ((GatherDims.mem_sKept _ _).2 ⟨show (2 : Fin 3) ∉ [(0 : Fin 3), 1] by decide, List.not_mem_nil⟩)]
      rfl
    show gDims.start (ix3 n r d) idx (2 : Fin 3) + 0 + gDims.offCoord (ix3 n r d) (2 : Fin 3) = d.val
    rw [hs, ho, Nat.zero_add]

variable (x0 : Vec Ideal S4x2048x768 .f32) (x1 : Vec Ideal S768x384 .f32) (x2 : Vec Ideal S384 .f32)
  (x3 : Vec Ideal S384x8 .f32) (x4 : Vec Ideal S8 .f32)

/-- The two greatest logits. -/
theorem values_at (n : Fin 8192) (r : Fin 2) : val_main_values (F := Ideal) x0 x1 x2 x3 x4 (ix2 n r)
    = rowLogit x0 x1 x2 x3 x4 n (Params.pick (rowLogit x0 x1 x2 x3 x4 n) r) := by
  have e : (fun e => val_main_v9 (F := Ideal) x0 x1 x2 x3 x4 (ix2 n e)) = rowLogit x0 x1 x2 x3 x4 n :=
    funext (v9_at x0 x1 x2 x3 x4 n)
  refine (topK_value _ _ n r).trans ?_
  rw [e]
  exact v9_at x0 x1 x2 x3 x4 n _

/-- Their positions. -/
theorem indices_at (n : Fin 8192) (r : Fin 2) : val_main_indices (F := Ideal) x0 x1 x2 x3 x4 (ix2 n r)
    = BitVec.ofNat 32 (Params.pick (rowLogit x0 x1 x2 x3 x4 n) r).val := by
  have e : (fun e => val_main_v9 (F := Ideal) x0 x1 x2 x3 x4 (ix2 n e)) = rowLogit x0 x1 x2 x3 x4 n :=
    funext (v9_at x0 x1 x2 x3 x4 n)
  refine (topK_place _ _ n r).trans ?_
  rw [e]

/-- The gates. -/
theorem v20_at (n : Fin 8192) (r : Fin 2) : val_main_v20 (F := Ideal) x0 x1 x2 x3 x4 (ix2 n r)
    = Params.gate (rowLogit x0 x1 x2 x3 x4 n) r := by
  unfold val_main_v20 val_main_v19 val_main_v18 val_main_v17 val_main_v16 val_main_v15 val_main_v14 val_main_v13 val_main_v12
    val_main_v10
  have h (n : Fin 8192) (r : Fin 2) := values_at x0 x1 x2 x3 x4 n r
  revert h
  generalize val_main_values (F := Ideal) x0 x1 x2 x3 x4 = y
  intro h
  pointwise [val_main_cst_1, val_main_v11, val_main_cst_0, val_main_cst, h]
  simp only [least, max_eq_right bot_le]
  rfl

/-- A position that is not negative is left as it is. -/
theorem v79_at (n : Fin 8192) (r : Fin 2) : val_main_v79 (F := Ideal) x0 x1 x2 x3 x4 (ix2 n r)
    = BitVec.ofNat 32 (Params.pick (rowLogit x0 x1 x2 x3 x4 n) r).val := by
  unfold val_main_v79 val_main_v78 val_main_v76
  have h := indices_at x0 x1 x2 x3 x4 n r
  revert h
  generalize val_main_indices (F := Ideal) x0 x1 x2 x3 x4 = y
  intro h
  pointwise [val_main_v75, val_main_c_14, val_main_v77, val_main_c_15, h]
  exact word_kept _ (by omega) _

/-- The row's own number. -/
theorem v74_at (n : Fin 8192) : val_main_v74 (F := Ideal) (ix2 n 0) = BitVec.ofNat 32 n.val := by
  pointwise [val_main_v74, val_main_v73, val_main_v72, val_main_c_13, val_main_v71, val_main_v70, val_main_c, val_main_v69, val_main_v68]
  exact word_kept _ n.isLt _

/-- The start's first component: the row. -/
theorem v83_row (n : Fin 8192) (r : Fin 2) :
    val_main_v83 (F := Ideal) x0 x1 x2 x3 x4 (ix3 n r 0) = BitVec.ofNat 32 n.val := by
  unfold val_main_v83 val_main_v82 val_main_v81 val_main_v80
  have h := v74_at n
  revert h
  generalize val_main_v74 (F := Ideal) = y
  generalize val_main_v79 (F := Ideal) x0 x1 x2 x3 x4 = y'
  intro h
  pointwise [h]

/-- The start's second component: the expert. -/
theorem v83_expert (n : Fin 8192) (r : Fin 2) : val_main_v83 (F := Ideal) x0 x1 x2 x3 x4 (ix3 n r 1)
    = BitVec.ofNat 32 (Params.pick (rowLogit x0 x1 x2 x3 x4 n) r).val := by
  unfold val_main_v83 val_main_v82 val_main_v81 val_main_v80
  have h := v79_at x0 x1 x2 x3 x4 n r
  revert h
  generalize val_main_v74 (F := Ideal) = y
  generalize val_main_v79 (F := Ideal) x0 x1 x2 x3 x4 = y'
  intro h
  pointwise [h]

end Cert.ReferenceIdeal.Moe
-- ==== Proof.RefExpert.lean ====
/- The reference's experts: every expert's output on every token. -/
module

public import proofs.«01_k».proof.Proof.RefLogits

@[expose] public section

set_option maxRecDepth 16384

noncomputable section

namespace Cert.ReferenceIdeal.Moe

open Idealize.ShloMosaic Idealize.ShloMosaic.StableHlo Idealize.ShloMosaic.TcCoe Idealize.SL.Sem Cert.ReferenceIdeal
  Cert.ReferenceIdeal.Gen Cert.ReferenceIdeal.Read Cert.Moe

variable (x0 : Vec Ideal S4x2048x768 .f32) (x5 : Vec Ideal S8x768x128 .f32) (x6 : Vec Ideal S8x128 .f32)
  (x7 : Vec Ideal S8x128x768 .f32) (x8 x9 x10 : Vec Ideal S8x768 .f32)

/-- A token's hidden unit before its activation. -/
theorem v49_at (e : Fin 8) (n : Fin 8192) (f : Fin 128) :
    val_main_v49 (F := Ideal) x0 x5 x6 (ix3 e n f) = ∑ d, row x0 n d * x5 (ix3 e d f) + x6 (ix2 e f) := by
  unfold val_main_v49 val_main_v46 val_main_v45
  have h (n : Fin 8192) (d : Fin 768) := v0_at x0 n d
  revert h
  generalize val_main_v0 (F := Ideal) x0 = y
  intro h
  pointwise [val_main_v48, val_main_v47, h]
  refine congrArg (fun z => z + x6 (ix2 e f)) (Finset.sum_congr rfl fun d _ => ?_)
  exact mul_comm _ _

/-- The activation. -/
theorem v56_at (e : Fin 8) (n : Fin 8192) (f : Fin 128) :
    val_main_v56 (F := Ideal) x0 x5 x6 (ix3 e n f)
      = Params.plainGelu (∑ d, row x0 n d * x5 (ix3 e d f) + x6 (ix2 e f)) := by
  unfold val_main_v56 val_main_v55 val_main_v54 val_main_v52 val_main_v51
  have h (e : Fin 8) (n : Fin 8192) (f : Fin 128) := v49_at x0 x5 x6 e n f
  revert h
  generalize val_main_v49 (F := Ideal) x0 x5 x6 = y
  intro h
  pointwise [val_main_v53, val_main_cst_12, val_main_v50, val_main_cst_11, h]
  rfl

/-- Every expert's output on every token. -/
theorem v67_at (n : Fin 8192) (e : Fin 8) (d : Fin 768) :
    val_main_v67 (F := Ideal) x0 x5 x6 x7 x8 x9 x10 (ix3 n e d)
      = (∑ f, Params.plainGelu (∑ k, row x0 n k * x5 (ix3 e k f) + x6 (ix2 e f)) * x7 (ix3 e f d) + x8 (ix2 e d))
          * x9 (ix2 e d) + x10 (ix2 e d) := by
  unfold val_main_v67 val_main_v66 val_main_v63 val_main_v60 val_main_v57
  have h (e : Fin 8) (n : Fin 8192) (f : Fin 128) := v56_at x0 x5 x6 e n f
  revert h
  generalize val_main_v56 (F := Ideal) x0 x5 x6 = y
  intro h
  pointwise [val_main_v65, val_main_v64, val_main_v62, val_main_v61, val_main_v59, val_main_v58, h]

end Cert.ReferenceIdeal.Moe
-- ==== Proof.RefNorm.lean ====
/- The reference's results: the gated sum of each token's two experts, added to the token and normalised. -/
module

public import proofs.«01_k».proof.Proof.RefPick
public import proofs.«01_k».proof.Proof.RefExpert

@[expose] public section

set_option maxRecDepth 16384

noncomputable section

namespace Cert.ReferenceIdeal.Moe

open Idealize.ShloMosaic Idealize.ShloMosaic.StableHlo Idealize.ShloMosaic.TcCoe Idealize.SL.Sem Cert.ReferenceIdeal
  Cert.ReferenceIdeal.Gen Cert.ReferenceIdeal.Read Cert.Moe

variable (x0 : Vec Ideal S4x2048x768 .f32) (x1 : Vec Ideal S768x384 .f32) (x2 : Vec Ideal S384 .f32)
  (x3 : Vec Ideal S384x8 .f32) (x4 : Vec Ideal S8 .f32) (x5 : Vec Ideal S8x768x128 .f32) (x6 : Vec Ideal S8x128 .f32)
  (x7 : Vec Ideal S8x128x768 .f32) (x8 x9 x10 : Vec Ideal S8x768 .f32) (x11 x12 : Vec Ideal S768 .f32)

/-- The gated sum of a token's two experts. -/
theorem v88_at (n : Fin 8192) (d : Fin 768) :
    val_main_v88 (F := Ideal) x0 x1 x2 x3 x4 x5 x6 x7 x8 x9 x10 (ix2 n d)
      = ∑ r, Params.gate (rowLogit x0 x1 x2 x3 x4 n) r
          * (paramsOf x1 x2 x3 x4 x5 x6 x7 x8 x9 x10 x11 x12).expert (row x0 n) (Params.pick (rowLogit x0 x1 x2 x3 x4 n) r) d := by
  have hg (r : Fin 2) : val_main_v84 (F := Ideal) x0 x1 x2 x3 x4 x5 x6 x7 x8 x9 x10 (ix3 n r d)
      = (paramsOf x1 x2 x3 x4 x5 x6 x7 x8 x9 x10 x11 x12).expert (row x0 n) (Params.pick (rowLogit x0 x1 x2 x3 x4 n) r) d :=
    (gather_at _ _ n r d n _ (v83_row x0 x1 x2 x3 x4 n r) (v83_expert x0 x1 x2 x3 x4 n r)).trans
      (v67_at x0 x5 x6 x7 x8 x9 x10 n _ d)
  have hv (r : Fin 2) := v20_at x0 x1 x2 x3 x4 n r
  unfold val_main_v88 val_main_v87 val_main_v86 val_main_v85
  revert hg hv
  generalize val_main_v84 (F := Ideal) x0 x1 x2 x3 x4 x5 x6 x7 x8 x9 x10 = y
  generalize val_main_v20 (F := Ideal) x0 x1 x2 x3 x4 = y'
  intro hg hv
  pointwise [val_main_cst_16, hg, hv]

/-- The tokens plus that sum. -/
theorem v90_at (b : Fin 4) (s : Fin 2048) (d : Fin 768) :
    val_main_v90 (F := Ideal) x0 x1 x2 x3 x4 x5 x6 x7 x8 x9 x10 (ix3 b s d)
      = (paramsOf x1 x2 x3 x4 x5 x6 x7 x8 x9 x10 x11 x12).plainMix (fun k => x0 (ix3 b s k)) d := by
  have h (n : Fin 8192) (d : Fin 768) := v88_at x0 x1 x2 x3 x4 x5 x6 x7 x8 x9 x10 x11 x12 n d
  unfold val_main_v90 val_main_v89
  revert h
  generalize val_main_v88 (F := Ideal) x0 x1 x2 x3 x4 x5 x6 x7 x8 x9 x10 = y
  intro h
  have e : row x0 ⟨b.val * 2048 + s.val, by omega⟩ = fun k => x0 (ix3 b s k) := by
    funext k
    refine congrArg₂ (fun b s => x0 (ix3 b s k)) (Fin.ext ?_) (Fin.ext ?_)
    · show (b.val * 2048 + s.val) / 2048 = b.val
      omega
    · show (b.val * 2048 + s.val) % 2048 = s.val
      omega
  pointwise [h]
  rw [e]
  have e' : rowLogit x0 x1 x2 x3 x4 ⟨b.val * 2048 + s.val, by omega⟩
      = (paramsOf x1 x2 x3 x4 x5 x6 x7 x8 x9 x10 x11 x12).logits (fun k => x0 (ix3 b s k)) := by
    unfold rowLogit
    rw [e]
    rfl
  rw [e']
  rfl

/-- The width is a positive number. -/
theorem width_pos : (0 : EReal) < width := by
  have h : width = ((768 : ℝ) : EReal) := by
    simp [Ideal.ofBits, Ideal.ieee, -EReal.coe_mul]; norm_num
  rw [h]
  exact EReal.coe_pos.mpr (by norm_num)

/-- Nothing is taken from the width. -/
theorem less_zero : width - (FloatOps.sitofp .f32 0#32 : Ideal .f32) = width := by
  have h : (FloatOps.sitofp .f32 0#32 : Ideal .f32) = (0 : EReal) := by
    show (((0#32 : BitVec 32).toInt : ℝ) : EReal) = 0
    simp
  rw [h]
  exact sub_zero _

/-- The first result from the rows before normalisation. -/
theorem v108_of (y : Fin 768 → EReal) (b : Fin 4) (s : Fin 2048)
    (h : ∀ d, val_main_v90 (F := Ideal) x0 x1 x2 x3 x4 x5 x6 x7 x8 x9 x10 (ix3 b s d) = y d) (d : Fin 768) :
    val_main_v108 (F := Ideal) x0 x1 x2 x3 x4 x5 x6 x7 x8 x9 x10 x11 x12 (ix3 b s d)
      = Params.plainNorm y (fun k => x11 (ix1 k)) (fun k => x12 (ix1 k)) d := by
  unfold val_main_v108 val_main_v105 val_main_v102 val_main_v101 val_main_v100 val_main_v99 val_main_v97 val_main_v96 val_main_v95
    val_main_v94 val_main_v92 val_main_v91 val_main_call1_v12 val_main_call1_v10 val_main_call1_v9 val_main_call1_v6
    val_main_call1_v5 val_main_call1_v4 val_main_call1_v3 val_main_call1_v1 val_main_call1_v0
  revert h
  generalize val_main_v90 (F := Ideal) x0 x1 x2 x3 x4 x5 x6 x7 x8 x9 x10 = z
  intro h
  pointwise [val_main_v107, val_main_v106, val_main_v104, val_main_v103, val_main_v98, val_main_cst_20, val_main_v93,
    val_main_cst_18, val_main_cst_17, val_main_call1_v11, val_main_call1_cst_2, val_main_call1_v8, val_main_call1_cst_1, val_main_call1_v7,
    val_main_call1_v2, val_main_call1_cst_0, val_main_call1_cst, val_main_c_19, val_main_call1_v13, val_main_call1_cst_3,
    val_main_call1_call0_v1, val_main_call1_call0_v0, val_main_call1_cst_4, h]
  rw [less_zero, if_pos width_pos]
  rfl

/-- The first result. -/
theorem v108_at (b : Fin 4) (s : Fin 2048) (d : Fin 768) :
    val_main_v108 (F := Ideal) x0 x1 x2 x3 x4 x5 x6 x7 x8 x9 x10 x11 x12 (ix3 b s d)
      = (paramsOf x1 x2 x3 x4 x5 x6 x7 x8 x9 x10 x11 x12).plainRow (fun k => x0 (ix3 b s k)) d :=
  v108_of x0 x1 x2 x3 x4 x5 x6 x7 x8 x9 x10 x11 x12 _ b s
    (v90_at x0 x1 x2 x3 x4 x5 x6 x7 x8 x9 x10 x11 x12 b s) d

/-- The second result. -/
theorem v44_loss (i : S_.Idx) : val_main_v44 (F := Ideal) x0 x1 x2 x3 x4 i
    = (paramsOf x1 x2 x3 x4 x5 x6 x7 x8 x9 x10 x11 x12).loss (fun b s k => x0 (ix3 b s k)) := by
  rw [v44_at]
  refine congrArg Params.lossOf (funext fun e => ?_)
  rw [← Fintype.sum_prod_type' (f := fun b s => prob ((paramsOf x1 x2 x3 x4 x5 x6 x7 x8 x9 x10 x11 x12).logits
    (fun k => x0 (ix3 b s k))) e)]
  exact Equiv.sum_comp (finProdFinEquiv (m := 4) (n := 2048)).symm (fun p => prob
    ((paramsOf x1 x2 x3 x4 x5 x6 x7 x8 x9 x10 x11 x12).logits (fun k => x0 (ix3 p.1 p.2 k))) e)

end Cert.ReferenceIdeal.Moe
-- ==== Proof.Results.lean ====
/- The value claim: under the precondition the kernel's two results are the reference's. -/
module

public import proofs.«01_k».proof.Proof.Finite
public import proofs.«01_k».proof.Proof.RefNorm

@[expose] public section

set_option maxRecDepth 16384

noncomputable section

namespace Cert.Moe

open Idealize.ShloMosaic Idealize.ShloMosaic.TcCoe Idealize.SL.Sem

section results

open Cert.KernelIdeal Cert.KernelIdeal.Moe Cert.ReferenceIdeal.Moe

variable (m : (ℓ : Loc nD τ sig) → Buf (Elt Ideal) ℓ) (c : Dev nD)
  (x0 : Vec Ideal S4x2048x768 .f32) (x1 : Vec Ideal S768x384 .f32) (x2 : Vec Ideal S384 .f32)
  (x3 : Vec Ideal S384x8 .f32) (x4 : Vec Ideal S8 .f32) (x5 : Vec Ideal S8x768x128 .f32) (x6 : Vec Ideal S8x128 .f32)
  (x7 : Vec Ideal S8x128x768 .f32) (x8 x9 x10 : Vec Ideal S8x768 .f32) (x11 x12 : Vec Ideal S768 .f32)
  (h0 : x0 = m ((c.tc : Thread nD τ).loc main_arg0)) (h1 : x1 = m ((c.tc : Thread nD τ).loc main_arg1))
  (h2 : x2 = m ((c.tc : Thread nD τ).loc main_arg2)) (h3 : x3 = m ((c.tc : Thread nD τ).loc main_arg3))
  (h4 : x4 = m ((c.tc : Thread nD τ).loc main_arg4)) (h5 : x5 = m ((c.tc : Thread nD τ).loc main_arg5))
  (h6 : x6 = m ((c.tc : Thread nD τ).loc main_arg6)) (h7 : x7 = m ((c.tc : Thread nD τ).loc main_arg7))
  (h8 : x8 = m ((c.tc : Thread nD τ).loc main_arg8)) (h9 : x9 = m ((c.tc : Thread nD τ).loc main_arg9))
  (h10 : x10 = m ((c.tc : Thread nD τ).loc main_arg10)) (h11 : x11 = m ((c.tc : Thread nD τ).loc main_arg11))
  (h12 : x12 = m ((c.tc : Thread nD τ).loc main_arg12))

include h0 h1 h2 h3 h4 h5 h6 h7 h8 h9 h10 h11 h12

/-- The two readings of the parameters are one. -/
theorem params_eq : paramsOf x1 x2 x3 x4 x5 x6 x7 x8 x9 x10 x11 x12 = params m c := by
  subst h1 h2 h3 h4 h5 h6 h7 h8 h9 h10 h11 h12
  rfl

/-- The reference's first result on equal arguments is the kernel's. -/
theorem first_result (h : Pre_KernelIdeal_finite (hPre_finite := finiteFacts) m) :
    Cert.ReferenceIdeal.Read.val_main_v108 (F := Ideal) x0 x1 x2 x3 x4 x5 x6 x7 x8 x9 x10 x11 x12 = out0 m c := by
  funext i
  rw [show i = ix3 (i 0) (i 1) (i 2) from (eq_ix3 i)]
  refine (v108_at x0 x1 x2 x3 x4 x5 x6 x7 x8 x9 x10 x11 x12 (i 0) (i 1) (i 2)).trans ?_
  refine Eq.trans ?_ (out0_at m c (i 0) (i 1) (i 2)).symm
  rw [params_eq m c x0 x1 x2 x3 x4 x5 x6 x7 x8 x9 x10 x11 x12 h0 h1 h2 h3 h4 h5 h6 h7 h8 h9 h10 h11 h12,
    row_eq (params_real m h c)]
  subst h0
  rfl

/-- The reference's second result on equal arguments is the kernel's. -/
theorem second_result : Cert.ReferenceIdeal.Read.val_main_v44 (F := Ideal) x0 x1 x2 x3 x4 = out1 m c := by
  funext i
  refine (v44_loss x0 x1 x2 x3 x4 x5 x6 x7 x8 x9 x10 x11 x12 i).trans ?_
  refine Eq.trans ?_ (out1_at m c i).symm
  rw [params_eq m c x0 x1 x2 x3 x4 x5 x6 x7 x8 x9 x10 x11 x12 h0 h1 h2 h3 h4 h5 h6 h7 h8 h9 h10 h11 h12]
  subst h0
  rfl

end results

/-- The value claim. -/
theorem results_agree : Cert.algebraic_KernelIdeal_ReferenceIdeal_pre_finite (hKernelIdeal := Cert.KernelIdeal.Gen.facts)
    (hReferenceIdeal := Cert.ReferenceIdeal.Gen.facts) (hPre_finite := finiteFacts) := by
  intro m g m' g' h ha
  refine ⟨Cert.KernelIdeal.Moe.out0 m, Cert.KernelIdeal.Moe.out1 m, ?_, ?_⟩
  · exact (θ_run _ _ _).mono (fun r hr c => ⟨(hr.1 c).1, (hr.1 c).2, hr.2 c⟩) (Cert.KernelIdeal.Moe.run m g)
  · refine (θ_run _ _ _).mono (fun r hr c => ⟨?_, ?_, (hr c).2.2⟩) (Cert.ReferenceIdeal.Value.run m' g')
    · obtain ⟨a0, a1, a2, a3, a4, a5, a6, a7, a8, a9, a10, a11, a12⟩ := ha c
      exact (hr c).1.trans ((Cert.ReferenceIdeal.Read.val_main_v108_eq m' c).trans
        (first_result m c _ _ _ _ _ _ _ _ _ _ _ _ _ a0 a1 a2 a3 a4 a5 a6 a7 a8 a9 a10 a11 a12 h))
    · obtain ⟨a0, a1, a2, a3, a4, a5, a6, a7, a8, a9, a10, a11, a12⟩ := ha c
      exact (hr c).2.1.trans ((Cert.ReferenceIdeal.Read.val_main_v44_eq m' c).trans
        (second_result m c _ _ _ _ _ _ _ _ _ _ _ _ _ a0 a1 a2 a3 a4 a5 a6 a7 a8 a9 a10 a11 a12))

end Cert.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Results
public import Idealize.ShloMosaic.Adequacy
public import Idealize.ShloMosaic.Init

@[expose] public section

noncomputable section

namespace Cert.Proof

open Idealize.ShloMosaic Idealize.SL.Sem Cert.Kernel

/-- The three frames (the last two also under the precondition), the ideal kernel preserving the kernel, and the
kernel's two results being the reference's. -/
theorem claim : Cert.Claim := ⟨Cert.Kernel.Gen.facts, Cert.KernelIdeal.Gen.facts, Cert.ReferenceIdeal.Gen.facts, Cert.Moe.finiteFacts,
  fun m ρ _ => Cert.Kernel.Gen.frame m ρ, fun m ρ _ => Cert.KernelIdeal.Gen.frame m ρ, fun m ρ _ => Cert.KernelIdeal.Gen.frame m ρ,
  Cert.Moe.reference_frame, fun m ρ _ => Cert.Moe.reference_frame m ρ trivial, trivial, Cert.Moe.results_agree⟩

end Cert.Proof

end
